-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Experts [hPre_groups_in_range : Cert.Pre_groups_in_range.Facts] (m : (ℓ : Loc Cert.Experts.nD Cert.Experts.τ Cert.Experts.sig) → Buf (Elt Bits) ℓ) : Prop :=
  ∀ c : Dev Cert.Experts.nD,
    (Cert.Pre_groups_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_groups_in_range : Cert.Pre_groups_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_groups_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_groups_in_range [hPre_groups_in_range : Cert.Pre_groups_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_groups_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Axial (m : (ℓ : Loc Cert.Axial.nD Cert.Axial.τ Cert.Axial.sig) → Buf (Elt Bits) ℓ) : Prop :=
  True

def Pre_AxialIdeal (m : (ℓ : Loc Cert.AxialIdeal.nD Cert.AxialIdeal.τ Cert.AxialIdeal.sig) → Buf (Elt Ideal) ℓ) : Prop :=
  True

def Pre_AxialIdeal_finite_axial [hPre_finite_axial : Cert.Pre_finite_axial.Facts] (m : (ℓ : Loc Cert.AxialIdeal.nD Cert.AxialIdeal.τ Cert.AxialIdeal.sig) → Buf (Elt Ideal) ℓ) : Prop :=
  ∀ c : Dev Cert.AxialIdeal.nD,
    (Cert.Pre_finite_axial.fn (F := Ideal) (m ((c.tc : Thread Cert.AxialIdeal.nD Cert.AxialIdeal.τ).loc Cert.AxialIdeal.main_arg0)) (m ((c.tc : Thread Cert.AxialIdeal.nD Cert.AxialIdeal.τ).loc Cert.AxialIdeal.main_arg1)) (m ((c.tc : Thread Cert.AxialIdeal.nD Cert.AxialIdeal.τ).loc Cert.AxialIdeal.main_arg2))) = (fun _ => 1#1)

def Pre_AxialReferenceIdeal (m : (ℓ : Loc Cert.AxialReferenceIdeal.nD Cert.AxialReferenceIdeal.τ Cert.AxialReferenceIdeal.sig) → Buf (Elt Ideal) ℓ) : Prop :=
  True

def Pre_AxialReferenceIdeal_finite_axial [hPre_finite_axial : Cert.Pre_finite_axial.Facts] (m : (ℓ : Loc Cert.AxialReferenceIdeal.nD Cert.AxialReferenceIdeal.τ Cert.AxialReferenceIdeal.sig) → Buf (Elt Ideal) ℓ) : Prop :=
  ∀ c : Dev Cert.AxialReferenceIdeal.nD,
    (Cert.Pre_finite_axial.fn (F := Ideal) (m ((c.tc : Thread Cert.AxialReferenceIdeal.nD Cert.AxialReferenceIdeal.τ).loc Cert.AxialReferenceIdeal.main_arg0)) (m ((c.tc : Thread Cert.AxialReferenceIdeal.nD Cert.AxialReferenceIdeal.τ).loc Cert.AxialReferenceIdeal.main_arg1)) (m ((c.tc : Thread Cert.AxialReferenceIdeal.nD Cert.AxialReferenceIdeal.τ).loc Cert.AxialReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Experts [hExperts : Cert.Experts.Facts] [hPre_groups_in_range : Cert.Pre_groups_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_groups_in_range : Cert.Pre_groups_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_groups_in_range [hExpertsReferenceIdeal : Cert.ExpertsReferenceIdeal.Facts] [hPre_groups_in_range : Cert.Pre_groups_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_groups_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Axial [hAxial : Cert.Axial.Facts] : Prop :=
  ∀ (m : (ℓ : Loc Cert.Axial.nD Cert.Axial.τ Cert.Axial.sig) → Buf (Elt Bits) ℓ) (g : Dev Cert.Axial.nD → PrngReg), Pre_Axial m →
    θ_run (Cert.Axial.defs (F := Bits)) (onTc (τ := Cert.Axial.τ) (Cert.Axial.main (F := Bits))) ⟨m, fun _ => 0, g⟩ (fun r => (∀ c : Dev Cert.Axial.nD,
      r.2.mem ((c.tc : Thread Cert.Axial.nD Cert.Axial.τ).loc Cert.Axial.main_arg0) = m ((c.tc : Thread Cert.Axial.nD Cert.Axial.τ).loc Cert.Axial.main_arg0)
      ∧ r.2.mem ((c.tc : Thread Cert.Axial.nD Cert.Axial.τ).loc Cert.Axial.main_arg1) = m ((c.tc : Thread Cert.Axial.nD Cert.Axial.τ).loc Cert.Axial.main_arg1)
      ∧ r.2.mem ((c.tc : Thread Cert.Axial.nD Cert.Axial.τ).loc Cert.Axial.main_arg2) = m ((c.tc : Thread Cert.Axial.nD Cert.Axial.τ).loc Cert.Axial.main_arg2))
      ∧ r.2.sem = fun _ => 0)

def quiescent_AxialIdeal [hAxialIdeal : Cert.AxialIdeal.Facts] : Prop :=
  ∀ (m : (ℓ : Loc Cert.AxialIdeal.nD Cert.AxialIdeal.τ Cert.AxialIdeal.sig) → Buf (Elt Ideal) ℓ) (g : Dev Cert.AxialIdeal.nD → PrngReg), Pre_AxialIdeal m →
    θ_run (Cert.AxialIdeal.defs (F := Ideal)) (onTc (τ := Cert.AxialIdeal.τ) (Cert.AxialIdeal.main (F := Ideal))) ⟨m, fun _ => 0, g⟩ (fun r => (∀ c : Dev Cert.AxialIdeal.nD,
      r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
      ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
      ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2))
      ∧ r.2.sem = fun _ => 0)

def quiescent_AxialIdeal_pre_finite_axial [hAxialIdeal : Cert.AxialIdeal.Facts] [hPre_finite_axial : Cert.Pre_finite_axial.Facts] : Prop :=
  ∀ (m : (ℓ : Loc Cert.AxialIdeal.nD Cert.AxialIdeal.τ Cert.AxialIdeal.sig) → Buf (Elt Ideal) ℓ) (g : Dev Cert.AxialIdeal.nD → PrngReg), Pre_AxialIdeal_finite_axial m →
    θ_run (Cert.AxialIdeal.defs (F := Ideal)) (onTc (τ := Cert.AxialIdeal.τ) (Cert.AxialIdeal.main (F := Ideal))) ⟨m, fun _ => 0, g⟩ (fun r => (∀ c : Dev Cert.AxialIdeal.nD,
      r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
      ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
      ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2))
      ∧ r.2.sem = fun _ => 0)

def quiescent_AxialReferenceIdeal [hAxialReferenceIdeal : Cert.AxialReferenceIdeal.Facts] : Prop :=
  ∀ (m : (ℓ : Loc Cert.AxialReferenceIdeal.nD Cert.AxialReferenceIdeal.τ Cert.AxialReferenceIdeal.sig) → Buf (Elt Ideal) ℓ) (g : Dev Cert.AxialReferenceIdeal.nD → PrngReg), Pre_AxialReferenceIdeal m →
    θ_run (Cert.AxialReferenceIdeal.defs (F := Ideal)) (onTc (τ := Cert.AxialReferenceIdeal.τ) (Cert.AxialReferenceIdeal.main (F := Ideal))) ⟨m, fun _ => 0, g⟩ (fun r => (∀ c : Dev Cert.AxialReferenceIdeal.nD,
      r.2.mem ((c.tc : Thread Cert.AxialReferenceIdeal.nD Cert.AxialReferenceIdeal.τ).loc Cert.AxialReferenceIdeal.main_arg0) = m ((c.tc : Thread Cert.AxialReferenceIdeal.nD Cert.AxialReferenceIdeal.τ).loc Cert.AxialReferenceIdeal.main_arg0)
      ∧ r.2.mem ((c.tc : Thread Cert.AxialReferenceIdeal.nD Cert.AxialReferenceIdeal.τ).loc Cert.AxialReferenceIdeal.main_arg1) = m ((c.tc : Thread Cert.AxialReferenceIdeal.nD Cert.AxialReferenceIdeal.τ).loc Cert.AxialReferenceIdeal.main_arg1)
      ∧ r.2.mem ((c.tc : Thread Cert.AxialReferenceIdeal.nD Cert.AxialReferenceIdeal.τ).loc Cert.AxialReferenceIdeal.main_arg2) = m ((c.tc : Thread Cert.AxialReferenceIdeal.nD Cert.AxialReferenceIdeal.τ).loc Cert.AxialReferenceIdeal.main_arg2))
      ∧ r.2.sem = fun _ => 0)

def quiescent_AxialReferenceIdeal_pre_finite_axial [hAxialReferenceIdeal : Cert.AxialReferenceIdeal.Facts] [hPre_finite_axial : Cert.Pre_finite_axial.Facts] : Prop :=
  ∀ (m : (ℓ : Loc Cert.AxialReferenceIdeal.nD Cert.AxialReferenceIdeal.τ Cert.AxialReferenceIdeal.sig) → Buf (Elt Ideal) ℓ) (g : Dev Cert.AxialReferenceIdeal.nD → PrngReg), Pre_AxialReferenceIdeal_finite_axial m →
    θ_run (Cert.AxialReferenceIdeal.defs (F := Ideal)) (onTc (τ := Cert.AxialReferenceIdeal.τ) (Cert.AxialReferenceIdeal.main (F := Ideal))) ⟨m, fun _ => 0, g⟩ (fun r => (∀ c : Dev Cert.AxialReferenceIdeal.nD,
      r.2.mem ((c.tc : Thread Cert.AxialReferenceIdeal.nD Cert.AxialReferenceIdeal.τ).loc Cert.AxialReferenceIdeal.main_arg0) = m ((c.tc : Thread Cert.AxialReferenceIdeal.nD Cert.AxialReferenceIdeal.τ).loc Cert.AxialReferenceIdeal.main_arg0)
      ∧ r.2.mem ((c.tc : Thread Cert.AxialReferenceIdeal.nD Cert.AxialReferenceIdeal.τ).loc Cert.AxialReferenceIdeal.main_arg1) = m ((c.tc : Thread Cert.AxialReferenceIdeal.nD Cert.AxialReferenceIdeal.τ).loc Cert.AxialReferenceIdeal.main_arg1)
      ∧ r.2.mem ((c.tc : Thread Cert.AxialReferenceIdeal.nD Cert.AxialReferenceIdeal.τ).loc Cert.AxialReferenceIdeal.main_arg2) = m ((c.tc : Thread Cert.AxialReferenceIdeal.nD Cert.AxialReferenceIdeal.τ).loc Cert.AxialReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_groups_in_range : Cert.Pre_groups_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v33) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Axial_AxialIdeal : Prop :=
  True

def algebraic_AxialIdeal_AxialReferenceIdeal_pre_finite_axial [hAxialIdeal : Cert.AxialIdeal.Facts] [hAxialReferenceIdeal : Cert.AxialReferenceIdeal.Facts] [hPre_finite_axial : Cert.Pre_finite_axial.Facts] : Prop :=
  ∀ (m : (ℓ : Loc Cert.AxialIdeal.nD Cert.AxialIdeal.τ Cert.AxialIdeal.sig) → Buf (Elt Ideal) ℓ) (g : Dev Cert.AxialIdeal.nD → PrngReg)
    (m' : (ℓ : Loc Cert.AxialReferenceIdeal.nD Cert.AxialReferenceIdeal.τ Cert.AxialReferenceIdeal.sig) → Buf (Elt Ideal) ℓ) (g' : Dev Cert.AxialReferenceIdeal.nD → PrngReg), Pre_AxialIdeal_finite_axial m →
    (∀ c : Dev Cert.AxialIdeal.nD,
      m' ((c.tc : Thread Cert.AxialReferenceIdeal.nD Cert.AxialReferenceIdeal.τ).loc Cert.AxialReferenceIdeal.main_arg0) = m ((c.tc : Thread Cert.AxialIdeal.nD Cert.AxialIdeal.τ).loc Cert.AxialIdeal.main_arg0)
      ∧ m' ((c.tc : Thread Cert.AxialReferenceIdeal.nD Cert.AxialReferenceIdeal.τ).loc Cert.AxialReferenceIdeal.main_arg1) = m ((c.tc : Thread Cert.AxialIdeal.nD Cert.AxialIdeal.τ).loc Cert.AxialIdeal.main_arg1)
      ∧ m' ((c.tc : Thread Cert.AxialReferenceIdeal.nD Cert.AxialReferenceIdeal.τ).loc Cert.AxialReferenceIdeal.main_arg2) = m ((c.tc : Thread Cert.AxialIdeal.nD Cert.AxialIdeal.τ).loc Cert.AxialIdeal.main_arg2)) →
    ∃ (v0 : (c : Dev Cert.AxialIdeal.nD) → Buf (Elt Ideal) ((c.tc : Thread Cert.AxialIdeal.nD Cert.AxialIdeal.τ).loc Cert.AxialIdeal.main_v17)),
      θ_run (Cert.AxialIdeal.defs (F := Ideal)) (onTc (τ := Cert.AxialIdeal.τ) (Cert.AxialIdeal.main (F := Ideal))) ⟨m, fun _ => 0, g⟩ (fun r => ∀ c : Dev Cert.AxialIdeal.nD,
          r.2.mem ((c.tc : Thread Cert.AxialIdeal.nD Cert.AxialIdeal.τ).loc Cert.AxialIdeal.main_v17) = v0 c
          ∧ r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
          ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
          ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2))
      ∧ θ_run (Cert.AxialReferenceIdeal.defs (F := Ideal)) (onTc (τ := Cert.AxialReferenceIdeal.τ) (Cert.AxialReferenceIdeal.main (F := Ideal))) ⟨m', fun _ => 0, g'⟩ (fun r => ∀ c : Dev Cert.AxialReferenceIdeal.nD,
          r.2.mem ((c.tc : Thread Cert.AxialReferenceIdeal.nD Cert.AxialReferenceIdeal.τ).loc Cert.AxialReferenceIdeal.main_v18) = v0 c
          ∧ r.2.mem ((c.tc : Thread Cert.AxialReferenceIdeal.nD Cert.AxialReferenceIdeal.τ).loc Cert.AxialReferenceIdeal.main_arg0) = m' ((c.tc : Thread Cert.AxialReferenceIdeal.nD Cert.AxialReferenceIdeal.τ).loc Cert.AxialReferenceIdeal.main_arg0)
          ∧ r.2.mem ((c.tc : Thread Cert.AxialReferenceIdeal.nD Cert.AxialReferenceIdeal.τ).loc Cert.AxialReferenceIdeal.main_arg1) = m' ((c.tc : Thread Cert.AxialReferenceIdeal.nD Cert.AxialReferenceIdeal.τ).loc Cert.AxialReferenceIdeal.main_arg1)
          ∧ r.2.mem ((c.tc : Thread Cert.AxialReferenceIdeal.nD Cert.AxialReferenceIdeal.τ).loc Cert.AxialReferenceIdeal.main_arg2) = m' ((c.tc : Thread Cert.AxialReferenceIdeal.nD Cert.AxialReferenceIdeal.τ).loc Cert.AxialReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hAxial : Cert.Axial.Facts) (hAxialIdeal : Cert.AxialIdeal.Facts) (hAxialReferenceIdeal : Cert.AxialReferenceIdeal.Facts) (hPre_finite : Cert.Pre_finite.Facts) (hPre_groups_in_range : Cert.Pre_groups_in_range.Facts) (hPre_finite_axial : Cert.Pre_finite_axial.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_groups_in_range := hPre_groups_in_range)
    ∧ quiescent_ExpertsIdeal (hExpertsIdeal := hExpertsIdeal) (hPre_groups_in_range := hPre_groups_in_range)
    ∧ quiescent_ExpertsReferenceIdeal (hExpertsReferenceIdeal := hExpertsReferenceIdeal)
    ∧ quiescent_ExpertsReferenceIdeal_pre_groups_in_range (hExpertsReferenceIdeal := hExpertsReferenceIdeal) (hPre_groups_in_range := hPre_groups_in_range)
    ∧ quiescent_Axial (hAxial := hAxial)
    ∧ quiescent_AxialIdeal (hAxialIdeal := hAxialIdeal)
    ∧ quiescent_AxialIdeal_pre_finite_axial (hAxialIdeal := hAxialIdeal) (hPre_finite_axial := hPre_finite_axial)
    ∧ quiescent_AxialReferenceIdeal (hAxialReferenceIdeal := hAxialReferenceIdeal)
    ∧ quiescent_AxialReferenceIdeal_pre_finite_axial (hAxialReferenceIdeal := hAxialReferenceIdeal) (hPre_finite_axial := hPre_finite_axial)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_groups_in_range := hPre_groups_in_range)
    ∧ preserves_Axial_AxialIdeal
    ∧ algebraic_AxialIdeal_AxialReferenceIdeal_pre_finite_axial (hAxialIdeal := hAxialIdeal) (hAxialReferenceIdeal := hAxialReferenceIdeal) (hPre_finite_axial := hPre_finite_axial)
-- ==== Pre_finite.lean ====
abbrev S16384x8x2x64 : Shape := ⟨4, ![16384, 8, 2, 64]⟩
abbrev S16384x8x128 : Shape := ⟨3, ![16384, 8, 128]⟩
abbrev S64 : Shape := ⟨1, ![64]⟩
abbrev S128 : Shape := ⟨1, ![128]⟩
abbrev S_ : Shape := ⟨0, ![]⟩

class Facts : Prop where
  bcast_S_S16384x8x2x64 : S_.BroadcastsInDim S16384x8x2x64 (![] : Fin 0 → Fin S16384x8x2x64.rank)
  reducesTo_S16384x8x2x64_S_d0_1_2_3 : S16384x8x2x64.ReducesTo [0, 1, 2, 3] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg5 : FVec F S64 .f32) (main_arg6 : FVec F S64 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S64 .f32 := broadcastInDim S64 ![] bcast_S_S64 main_cst_13
  let main_v35 : IVec S64 1 := cmpf .ogt main_arg5 main_v34
  let main_cst_14 : FVec F S_ .f32 := constant S_ .f32 0x7F800000#32
  let main_v36 : FVec F S64 .f32 := broadcastInDim S64 ![] bcast_S_S64 main_cst_14
  let main_v37 : IVec S64 1 := cmpf .olt main_arg5 main_v36
  let main_v38 : IVec S64 1 := andi main_v35 main_v37
  let main_c_15 : IVec S_ 1 := constantI S_ 1 1#1
  let main_v39 : IVec S_ 1 := (fun x v => Host.reduce IntOp.andi x v reducesTo_S64_S_d0 h_S_) main_v38 main_c_15
  let main_v40 : IVec S_ 1 := andi main_v33 main_v39
  let main_cst_16 : FVec F S_ .f32 := constant S_ .f32 0xFF800000#32
  let main_v41 : FVec F S64 .f32 := broadcastInDim S64 ![] bcast_S_S64 main_cst_16
  let main_v42 : IVec S64 1 := cmpf .ogt main_arg6 main_v41
  let main_cst_17 : FVec F S_ .f32 := constant S_ .f32 0x7F800000#32
  let main_v43 : FVec F S64 .f32 := broadcastInDim S64 ![] bcast_S_S64 main_cst_17
  let main_v44 : IVec S64 1 := cmpf .olt main_arg6 main_v43
  let main_v45 : IVec S64 1 := andi main_v42 main_v44
  let main_c_18 : IVec S_ 1 := constantI S_ 1 1#1
  let main_v46 : IVec S_ 1 := (fun x v => Host.reduce IntOp.andi x v reducesTo_S64_S_d0 h_S_) main_v45 main_c_18
  let main_v47 : IVec S_ 1 := andi main_v40 main_v46
  main_v47

def fn_part1 {F : FTy → Type} [FloatOps F] (main_arg2 : FVec F S16384x8x128 .f32) (main_arg3 : FVec F S64 .f32) (main_arg4 : FVec F S64 .f32) (main_arg5 : FVec F S64 .f32) (main_arg6 : FVec F S64 .f32) (main_v12 : IVec S_ 1) (main_v14 : IVec S16384x8x128 1) (main_v15 : FVec F S16384x8x128 .f32) : IVec S_ 1 :=
  let main_v16 : IVec S16384x8x128 1 := cmpf .olt main_arg2 main_v15
  let main_v17 : IVec S16384x8x128 1 := andi main_v14 main_v16
  let main_c_6 : IVec S_ 1 := constantI S_ 1 1#1
  let main_v18 : IVec S_ 1 := (fun x v => Host.reduce IntOp.andi x v reducesTo_S16384x8x128_S_d0_1_2 h_S_) main_v17 main_c_6
  let main_v19 : IVec S_ 1 := andi main_v12 main_v18
  let main_cst_7 : FVec F S_ .f32 := constant S_ .f32 0xFF800000#32
  let main_v20 : FVec F S64 .f32 := broadcastInDim S64 ![] bcast_S_S64 main_cst_7
  let main_v21 : IVec S64 1 := cmpf .ogt main_arg3 main_v20
  let main_cst_8 : FVec F S_ .f32 := constant S_ .f32 0x7F800000#32
  let main_v22 : FVec F S64 .f32 := broadcastInDim S64 ![] bcast_S_S64 main_cst_8
  let main_v23 : IVec S64 1 := cmpf .olt main_arg3 main_v22
  let main_v24 : IVec S64 1 := andi main_v21 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v19 main_v25
  let main_cst_10 : FVec F S_ .f32 := constant S_ .f32 0xFF800000#32
  let main_v27 : FVec F S64 .f32 := broadcastInDim S64 ![] bcast_S_S64 main_cst_10
  let main_v28 : IVec S64 1 := cmpf .ogt main_arg4 main_v27
  let main_cst_11 : FVec F S_ .f32 := constant S_ .f32 0x7F800000#32
  let main_v29 : FVec F S64 .f32 := broadcastInDim S64 ![] bcast_S_S64 main_cst_11
  let main_v30 : IVec S64 1 := cmpf .olt main_arg4 main_v29
  let main_v31 : IVec S64 1 := andi main_v28 main_v30
  let main_c_12 : IVec S_ 1 := constantI S_ 1 1#1
  let main_v32 : IVec S_ 1 := (fun x v => Host.reduce IntOp.andi x v reducesTo_S64_S_d0 h_S_) main_v31 main_c_12
  fn_part2 (F := F) main_arg5 main_arg6 main_v26 main_v32

def fn {F : FTy → Type} [FloatOps F] (main_arg0 : FVec F S16384x8x2x64 .f32) (main_arg1 : FVec F S16384x8x2x64 .f32) (main_arg2 : FVec F S16384x8x128 .f32) (main_arg3 : FVec F S64 .f32) (main_arg4 : FVec F S64 .f32) (main_arg5 : FVec F S64 .f32) (main_arg6 : FVec F S64 .f32) (main_arg7 : FVec F S128 .f32) : IVec S_ 1 :=
  let main_cst : FVec F S_ .f32 := constant S_ .f32 0xFF800000#32
  let main_v0 : FVec F S16384x8x2x64 .f32 := broadcastInDim S16384x8x2x64 ![] bcast_S_S16384x8x2x64 main_cst
  let main_v1 : IVec S16384x8x2x64 1 := cmpf .ogt main_arg0 main_v0
  let main_cst_0 : FVec F S_ .f32 := constant S_ .f32 0x7F800000#32
  let main_v2 : FVec F S16384x8x2x64 .f32 := broadcastInDim S16384x8x2x64 ![] bcast_S_S16384x8x2x64 main_cst_0
  let main_v3 : IVec S16384x8x2x64 1 := cmpf .olt main_arg0 main_v2
  let main_v4 : IVec S16384x8x2x64 1 := andi main_v1 main_v3
  let main_c : IVec S_ 1 := constantI S_ 1 1#1
  let main_v5 : IVec S_ 1 := (fun x v => Host.reduce IntOp.andi x v reducesTo_S16384x8x2x64_S_d0_1_2_3 h_S_) main_v4 main_c
  let main_cst_1 : FVec F S_ .f32 := constant S_ .f32 0xFF800000#32
  let main_v6 : FVec F S16384x8x2x64 .f32 := broadcastInDim S16384x8x2x64 ![] bcast_S_S16384x8x2x64 main_cst_1
  let main_v7 : IVec S16384x8x2x64 1 := cmpf .ogt main_arg1 main_v6
  let main_cst_2 : FVec F S_ .f32 := constant S_ .f32 0x7F800000#32
  let main_v8 : FVec F S16384x8x2x64 .f32 := broadcastInDim S16384x8x2x64 ![] bcast_S_S16384x8x2x64 main_cst_2
  let main_v9 : IVec S16384x8x2x64 1 := cmpf .olt main_arg1 main_v8
  let main_v10 : IVec S16384x8x2x64 1 := andi main_v7 main_v9
  let main_c_3 : IVec S_ 1 := constantI S_ 1 1#1
  let main_v11 : IVec S_ 1 := (fun x v => Host.reduce IntOp.andi x v reducesTo_S16384x8x2x64_S_d0_1_2_3 h_S_) main_v10 main_c_3
  let main_v12 : IVec S_ 1 := andi main_v5 main_v11
  let main_cst_4 : FVec F S_ .f32 := constant S_ .f32 0xFF800000#32
  let main_v13 : FVec F S16384x8x128 .f32 := broadcastInDim S16384x8x128 ![] bcast_S_S16384x8x128 main_cst_4
  let main_v14 : IVec S16384x8x128 1 := cmpf .ogt main_arg2 main_v13
  let main_cst_5 : FVec F S_ .f32 := constant S_ .f32 0x7F800000#32
  let main_v15 : FVec F S16384x8x128 .f32 := broadcastInDim S16384x8x128 ![] bcast_S_S16384x8x128 main_cst_5
  fn_part1 (F := F) main_arg2 main_arg3 main_arg4 main_arg5 main_arg6 main_v12 main_v14 main_v15
-- ==== Pre_finite_axial.lean ====
abbrev S16384x4x4x64 : Shape := ⟨4, ![16384, 4, 4, 64]⟩
abbrev S16384x4x64 : Shape := ⟨3, ![16384, 4, 64]⟩
abbrev S_ : Shape := ⟨0, ![]⟩

class Facts : Prop where
  bcast_S_S16384x4x4x64 : S_.BroadcastsInDim S16384x4x4x64 (![] : Fin 0 → Fin S16384x4x4x64.rank)
  reducesTo_S16384x4x4x64_S_d0_1_2_3 : S16384x4x4x64.ReducesTo [0, 1, 2, 3] S_
  h_S_ : 0 < S_.numel
  bcast_S_S16384x4x64 : S_.BroadcastsInDim S16384x4x64 (![] : Fin 0 → Fin S16384x4x64.rank)
  reducesTo_S16384x4x64_S_d0_1_2 : S16384x4x64.ReducesTo [0, 1, 2] S_

variable [Facts]

def fn_part1 {F : FTy → Type} [FloatOps F] (main_arg2 : FVec F S16384x4x64 .f32) (main_v12 : IVec S_ 1) (main_v14 : IVec S16384x4x64 1) (main_v15 : FVec F S16384x4x64 .f32) : IVec S_ 1 :=
  let main_v16 : IVec S16384x4x64 1 := cmpf .olt main_arg2 main_v15
  let main_v17 : IVec S16384x4x64 1 := andi main_v14 main_v16
  let main_c_6 : IVec S_ 1 := constantI S_ 1 1#1
  let main_v18 : IVec S_ 1 := (fun x v => Host.reduce IntOp.andi x v reducesTo_S16384x4x64_S_d0_1_2 h_S_) main_v17 main_c_6
  let main_v19 : IVec S_ 1 := andi main_v12 main_v18
  main_v19

def fn {F : FTy → Type} [FloatOps F] (main_arg0 : FVec F S16384x4x4x64 .f32) (main_arg1 : FVec F S16384x4x64 .f32) (main_arg2 : FVec F S16384x4x64 .f32) : IVec S_ 1 :=
  let main_cst : FVec F S_ .f32 := constant S_ .f32 0xFF800000#32
  let main_v0 : FVec F S16384x4x4x64 .f32 := broadcastInDim S16384x4x4x64 ![] bcast_S_S16384x4x4x64 main_cst
  let main_v1 : IVec S16384x4x4x64 1 := cmpf .ogt main_arg0 main_v0
  let main_cst_0 : FVec F S_ .f32 := constant S_ .f32 0x7F800000#32
  let main_v2 : FVec F S16384x4x4x64 .f32 := broadcastInDim S16384x4x4x64 ![] bcast_S_S16384x4x4x64 main_cst_0
  let main_v3 : IVec S16384x4x4x64 1 := cmpf .olt main_arg0 main_v2
  let main_v4 : IVec S16384x4x4x64 1 := andi main_v1 main_v3
  let main_c : IVec S_ 1 := constantI S_ 1 1#1
  let main_v5 : IVec S_ 1 := (fun x v => Host.reduce IntOp.andi x v reducesTo_S16384x4x4x64_S_d0_1_2_3 h_S_) main_v4 main_c
  let main_cst_1 : FVec F S_ .f32 := constant S_ .f32 0xFF800000#32
  let main_v6 : FVec F S16384x4x64 .f32 := broadcastInDim S16384x4x64 ![] bcast_S_S16384x4x64 main_cst_1
  let main_v7 : IVec S16384x4x64 1 := cmpf .ogt main_arg1 main_v6
  let main_cst_2 : FVec F S_ .f32 := constant S_ .f32 0x7F800000#32
  let main_v8 : FVec F S16384x4x64 .f32 := broadcastInDim S16384x4x64 ![] bcast_S_S16384x4x64 main_cst_2
  let main_v9 : IVec S16384x4x64 1 := cmpf .olt main_arg1 main_v8
  let main_v10 : IVec S16384x4x64 1 := andi main_v7 main_v9
  let main_c_3 : IVec S_ 1 := constantI S_ 1 1#1
  let main_v11 : IVec S_ 1 := (fun x v => Host.reduce IntOp.andi x v reducesTo_S16384x4x64_S_d0_1_2 h_S_) main_v10 main_c_3
  let main_v12 : IVec S_ 1 := andi main_v5 main_v11
  let main_cst_4 : FVec F S_ .f32 := constant S_ .f32 0xFF800000#32
  let main_v13 : FVec F S16384x4x64 .f32 := broadcastInDim S16384x4x64 ![] bcast_S_S16384x4x64 main_cst_4
  let main_v14 : IVec S16384x4x64 1 := cmpf .ogt main_arg2 main_v13
  let main_cst_5 : FVec F S_ .f32 := constant S_ .f32 0x7F800000#32
  let main_v15 : FVec F S16384x4x64 .f32 := broadcastInDim S16384x4x64 ![] bcast_S_S16384x4x64 main_cst_5
  fn_part1 (F := F) main_arg2 main_v12 main_v14 main_v15
-- ==== Pre_groups_in_range.lean ====
abbrev S36 : Shape := ⟨1, ![36]⟩
abbrev S1 : Shape := ⟨1, ![1]⟩
abbrev S18432x8x128 : Shape := ⟨3, ![18432, 8, 128]⟩
abbrev S18432x128 : Shape := ⟨2, ![18432, 128]⟩
abbrev S16x1024x512 : Shape := ⟨3, ![16, 1024, 512]⟩
abbrev S16x512x1024 : Shape := ⟨3, ![16, 512, 1024]⟩
abbrev S_ : Shape := ⟨0, ![]⟩

class Facts : Prop where
  bcast_S_S36 : S_.BroadcastsInDim S36 (![] : Fin 0 → Fin S36.rank)
  reducesTo_S36_S_d0 : S36.ReducesTo [0] S_
  h_S_ : 0 < S_.numel

variable [Facts]

def fn {F : FTy → Type} [FloatOps F] (main_arg0 : IVec S36 32) (main_arg1 : IVec S1 32) (main_arg2 : FVec F S18432x8x128 .f32) (main_arg3 : FVec F S18432x128 .f32) (main_arg4 : FVec F S16x1024x512 .f32) (main_arg5 : FVec F S16x1024x512 .f32) (main_arg6 : FVec F S16x512x1024 .f32) : IVec S_ 1 :=
  let main_c : IVec S_ 32 := constantI S_ 32 0#32
  let main_v0 : IVec S36 32 := broadcastInDim S36 ![] bcast_S_S36 main_c
  let main_v1 : IVec S36 1 := cmpi .sge main_arg0 main_v0
  let main_c_0 : IVec S_ 32 := constantI S_ 32 4#32
  let main_v2 : IVec S36 32 := broadcastInDim S36 ![] bcast_S_S36 main_c_0
  let main_v3 : IVec S36 1 := cmpi .slt main_arg0 main_v2
  let main_v4 : IVec S36 1 := andi main_v1 main_v3
  let main_c_1 : IVec S_ 1 := constantI S_ 1 1#1
  let main_v5 : IVec S_ 1 := (fun x v => Host.reduce IntOp.andi x v reducesTo_S36_S_d0 h_S_) main_v4 main_c_1
  main_v5
-- ==== Kernel.lean ====
abbrev S16384x8x2x64 : Shape := ⟨4, ![16384, 8, 2, 64]⟩
abbrev S16384x8x128 : Shape := ⟨3, ![16384, 8, 128]⟩
abbrev S64 : Shape := ⟨1, ![64]⟩
abbrev S128 : Shape := ⟨1, ![128]⟩
abbrev S_ : Shape := ⟨0, ![]⟩
abbrev S16384x16x64 : Shape := ⟨3, ![16384, 16, 64]⟩
abbrev S16x16384x64 : Shape := ⟨3, ![16, 16384, 64]⟩
abbrev S16x64x16384 : Shape := ⟨3, ![16, 64, 16384]⟩
abbrev S16384x8x256 : Shape := ⟨3, ![16384, 8, 256]⟩
abbrev S16384x2048 : Shape := ⟨2, ![16384, 2048]⟩
abbrev S1x64 : Shape := ⟨2, ![1, 64]⟩
abbrev S4x64 : Shape := ⟨2, ![4, 64]⟩
abbrev S1x128 : Shape := ⟨2, ![1, 128]⟩
abbrev S16384x1024 : Shape := ⟨2, ![16384, 1024]⟩
abbrev S2x1024x64 : Shape := ⟨3, ![2, 1024, 64]⟩
abbrev S2x64x2048 : Shape := ⟨3, ![2, 64, 2048]⟩
abbrev S2048x256 : Shape := ⟨2, ![2048, 256]⟩
abbrev S1024x128 : Shape := ⟨2, ![1024, 128]⟩
abbrev S2x1024x128 : Shape := ⟨3, ![2, 1024, 128]⟩
abbrev S2x1024x256 : Shape := ⟨3, ![2, 1024, 256]⟩
abbrev S1x1024x128 : Shape := ⟨3, ![1, 1024, 128]⟩
abbrev S1024x256 : Shape := ⟨2, ![1024, 256]⟩
abbrev S1x1024x256 : Shape := ⟨3, ![1, 1024, 256]⟩
abbrev S1x1024x64 : Shape := ⟨3, ![1, 1024, 64]⟩
abbrev S1024x64 : Shape := ⟨2, ![1024, 64]⟩
abbrev S1x64x2048 : Shape := ⟨3, ![1, 64, 2048]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 37
  | .vmem => 12
  | .smem => 0
  | _ => 0

abbrev bufTy : (tb : Table) → Fin (tcTables nBuf tb) → BufTy
  | .hbm, ⟨0, _⟩ => ⟨S16384x8x2x64, .f32⟩
  | .hbm, ⟨1, _⟩ => ⟨S16384x8x2x64, .f32⟩
  | .hbm, ⟨2, _⟩ => ⟨S16384x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x8x2x64, .f32⟩
  | .hbm, ⟨15, _⟩ => ⟨S16384x8x2x64, .f32⟩
  | .hbm, ⟨16, _⟩ => ⟨S16384x8x2x64, .bf16⟩
  | .hbm, ⟨17, _⟩ => ⟨S16384x16x64, .bf16⟩
  | .hbm, ⟨18, _⟩ => ⟨S16x16384x64, .bf16⟩
  | .hbm, ⟨19, _⟩ => ⟨S16384x8x2x64, .bf16⟩
  | .hbm, ⟨20, _⟩ => ⟨S16384x16x64, .bf16⟩
  | .hbm, ⟨21, _⟩ => ⟨S16x64x16384, .bf16⟩
  | .hbm, ⟨22, _⟩ => ⟨S16384x8x128, .i32⟩
  | .hbm, ⟨23, _⟩ => ⟨S_, .i32⟩
  | .hbm, ⟨24, _⟩ => ⟨S16384x8x128, .i32⟩
  | .hbm, ⟨25, _⟩ => ⟨S16384x8x128, .i1⟩
  | .hbm, ⟨26, _⟩ => ⟨S16384x8x128, .bf16⟩
  | .hbm, ⟨27, _⟩ => ⟨S16384x8x128, .bf16⟩
  | .hbm, ⟨28, _⟩ => ⟨S16384x8x256, .bf16⟩
  | .hbm, ⟨29, _⟩ => ⟨S16384x2048, .bf16⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S4x64, .f32⟩
  | .hbm, ⟨35, _⟩ => ⟨S1x128, .f32⟩
  | .hbm, ⟨36, _⟩ => ⟨S16384x1024, .bf16⟩
  | .local _ .vmem, ⟨0, _⟩ => ⟨S2x1024x64, .bf16⟩
  | .local _ .vmem, ⟨1, _⟩ => ⟨S2x1024x64, .bf16⟩
  | .local _ .vmem, ⟨2, _⟩ => ⟨S2x64x2048, .bf16⟩
  | .local _ .vmem, ⟨3, _⟩ => ⟨S2x64x2048, .bf16⟩
  | .local _ .vmem, ⟨4, _⟩ => ⟨S2048x256, .bf16⟩
  | .local _ .vmem, ⟨5, _⟩ => ⟨S2048x256, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S2x1024x128, .f32⟩
  | .local _ .vmem, ⟨11, _⟩ => ⟨S2x1024x256, .f32⟩
  | _, _ => ⟨S16384x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 16, 8], ![false, false, false]⟩

def k0_cond2 (i : grid0.Coords) : BitVec 1 :=
  let arg2 : BitVec 32 := BitVec.ofNat 32 (i 2).val
  let c7_i32 : BitVec 32 := 7#32
  let v67 : BitVec 1 := Scalar.cmpi .eq arg2 c7_i32
  let v68 : BitVec 32 := Scalar.extui v67
  let c0_i32_44 : BitVec 32 := 0#32
  let v69 : BitVec 1 := Scalar.cmpi .ne v68 c0_i32_44
  v69

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S16384x8x2x64 : Shape := ⟨4, ![16384, 8, 2, 64]⟩
abbrev S16384x8x128 : Shape := ⟨3, ![16384, 8, 128]⟩
abbrev S64 : Shape := ⟨1, ![64]⟩
abbrev S128 : Shape := ⟨1, ![128]⟩
abbrev S_ : Shape := ⟨0, ![]⟩
abbrev S8x2x16384x16384 : Shape := ⟨4, ![8, 2, 16384, 16384]⟩
abbrev S8x2x16384 : Shape := ⟨3, ![8, 2, 16384]⟩
abbrev S8x2x16384x1 : Shape := ⟨4, ![8, 2, 16384, 1]⟩
abbrev S8x1x16384x16384 : Shape := ⟨4, ![8, 1, 16384, 16384]⟩
abbrev S8x16384x16384 : Shape := ⟨3, ![8, 16384, 16384]⟩
abbrev S8x128x16384 : Shape := ⟨3, ![8, 128, 16384]⟩
abbrev S16384x8 : Shape := ⟨2, ![16384, 8]⟩
abbrev S16384x8x1 : Shape := ⟨3, ![16384, 8, 1]⟩
abbrev S1x1x128 : Shape := ⟨3, ![1, 1, 128]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16384x8x2x64, .f32⟩
  | .hbm, ⟨1, _⟩ => ⟨S16384x8x2x64, .f32⟩
  | .hbm, ⟨2, _⟩ => ⟨S16384x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x2x16384x16384, .f32⟩
  | .hbm, ⟨20, _⟩ => ⟨S_, .f32⟩
  | .hbm, ⟨21, _⟩ => ⟨S8x2x16384x16384, .f32⟩
  | .hbm, ⟨22, _⟩ => ⟨S8x2x16384x16384, .f32⟩
  | .hbm, ⟨23, _⟩ => ⟨S_, .f32⟩
  | .hbm, ⟨24, _⟩ => ⟨S8x2x16384, .f32⟩
  | .hbm, ⟨25, _⟩ => ⟨S_, .f32⟩
  | .hbm, ⟨26, _⟩ => ⟨S8x2x16384, .f32⟩
  | .hbm, ⟨27, _⟩ => ⟨S8x2x16384, .f32⟩
  | .hbm, ⟨28, _⟩ => ⟨S8x2x16384x1, .f32⟩
  | .hbm, ⟨29, _⟩ => ⟨S8x2x16384x16384, .f32⟩
  | .hbm, ⟨30, _⟩ => ⟨S8x2x16384x16384, .f32⟩
  | .hbm, ⟨31, _⟩ => ⟨S8x2x16384x16384, .f32⟩
  | .hbm, ⟨32, _⟩ => ⟨S_, .f32⟩
  | .hbm, ⟨33, _⟩ => ⟨S8x2x16384, .f32⟩
  | .hbm, ⟨34, _⟩ => ⟨S8x2x16384x1, .f32⟩
  | .hbm, ⟨35, _⟩ => ⟨S8x2x16384x16384, .f32⟩
  | .hbm, ⟨36, _⟩ => ⟨S8x2x16384x16384, .f32⟩
  | .hbm, ⟨37, _⟩ => ⟨S8x1x16384x16384, .f32⟩
  | .hbm, ⟨38, _⟩ => ⟨S8x16384x16384, .f32⟩
  | .hbm, ⟨39, _⟩ => ⟨S8x1x16384x16384, .f32⟩
  | .hbm, ⟨40, _⟩ => ⟨S8x16384x16384, .f32⟩
  | .hbm, ⟨41, _⟩ => ⟨S8x16384x16384, .f32⟩
  | .hbm, ⟨42, _⟩ => ⟨S8x16384x16384, .f32⟩
  | .hbm, ⟨43, _⟩ => ⟨S8x16384x16384, .f32⟩
  | .hbm, ⟨44, _⟩ => ⟨S8x128x16384, .f32⟩
  | .hbm, ⟨45, _⟩ => ⟨S16384x8x128, .f32⟩
  | .hbm, ⟨46, _⟩ => ⟨S16384x8x128, .f32⟩
  | .hbm, ⟨47, _⟩ => ⟨S_, .f32⟩
  | .hbm, ⟨48, _⟩ => ⟨S16384x8, .f32⟩
  | .hbm, ⟨49, _⟩ => ⟨S16384x8x1, .f32⟩
  | .hbm, ⟨50, _⟩ => ⟨S_, .f32⟩
  | .hbm, ⟨51, _⟩ => ⟨S16384x8x1, .f32⟩
  | .hbm, ⟨52, _⟩ => ⟨S16384x8x1, .f32⟩
  | .hbm, ⟨53, _⟩ => ⟨S_, .f32⟩
  | .hbm, ⟨54, _⟩ => ⟨S16384x8x1, .f32⟩
  | .hbm, ⟨55, _⟩ => ⟨S16384x8x1, .f32⟩
  | .hbm, ⟨56, _⟩ => ⟨S16384x8x1, .f32⟩
  | .hbm, ⟨57, _⟩ => ⟨S16384x8x128, .f32⟩
  | .hbm, ⟨58, _⟩ => ⟨S16384x8x128, .f32⟩
  | .hbm, ⟨59, _⟩ => ⟨S1x1x128, .f32⟩
  | .hbm, ⟨60, _⟩ => ⟨S16384x8x128, .f32⟩
  | .hbm, ⟨61, _⟩ => ⟨S16384x8x128, .f32⟩
  | .hbm, ⟨62, _⟩ => ⟨S_, .f32⟩
  | .hbm, ⟨63, _⟩ => ⟨S16384x8x128, .f32⟩
  | .hbm, ⟨64, _⟩ => ⟨S16384x8x128, .f32⟩
  | .hbm, ⟨65, _⟩ => ⟨S16384x1024, .f32⟩
  | .hbm, ⟨66, _⟩ => ⟨S16384x1024, .bf16⟩
  | _, _ => ⟨S16384x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Experts.lean ====
abbrev S36 : Shape := ⟨1, ![36]⟩
abbrev S1 : Shape := ⟨1, ![1]⟩
abbrev S18432x8x128 : Shape := ⟨3, ![18432, 8, 128]⟩
abbrev S18432x128 : Shape := ⟨2, ![18432, 128]⟩
abbrev S16x1024x512 : Shape := ⟨3, ![16, 1024, 512]⟩
abbrev S16x512x1024 : Shape := ⟨3, ![16, 512, 1024]⟩
abbrev S512x8x128 : Shape := ⟨3, ![512, 8, 128]⟩
abbrev S512x128 : Shape := ⟨2, ![512, 128]⟩
abbrev S4x1024x512 : Shape := ⟨3, ![4, 1024, 512]⟩
abbrev S4x512x1024 : Shape := ⟨3, ![4, 512, 1024]⟩
abbrev S512x1x128 : Shape := ⟨3, ![512, 1, 128]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 9
  | .vmem => 12
  | .smem => 2
  | _ => 0

abbrev bufTy : (tb : Table) → Fin (tcTables nBuf tb) → BufTy
  | .hbm, ⟨0, _⟩ => ⟨S18432x8x128, .f32⟩
  | .hbm, ⟨1, _⟩ => ⟨S18432x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S18432x8x128, .f32⟩
  | .local _ .vmem, ⟨0, _⟩ => ⟨S512x8x128, .f32⟩
  | .local _ .vmem, ⟨1, _⟩ => ⟨S512x8x128, .f32⟩
  | .local _ .vmem, ⟨2, _⟩ => ⟨S512x128, .f32⟩
  | .local _ .vmem, ⟨3, _⟩ => ⟨S512x128, .f32⟩
  | .local _ .vmem, ⟨4, _⟩ => ⟨S4x1024x512, .bf16⟩
  | .local _ .vmem, ⟨5, _⟩ => ⟨S4x1024x512, .bf16⟩
  | .local _ .vmem, ⟨6, _⟩ => ⟨S4x1024x512, .bf16⟩
  | .local _ .vmem, ⟨7, _⟩ => ⟨S4x1024x512, .bf16⟩
  | .local _ .vmem, ⟨8, _⟩ => ⟨S4x512x1024, .bf16⟩
  | .local _ .vmem, ⟨9, _⟩ => ⟨S4x512x1024, .bf16⟩
  | .local _ .vmem, ⟨10, _⟩ => ⟨S512x8x128, .f32⟩
  | .local _ .vmem, ⟨11, _⟩ => ⟨S512x8x128, .f32⟩
  | .local _ .smem, ⟨0, _⟩ => ⟨S36, .i32⟩
  | .local _ .smem, ⟨1, _⟩ => ⟨S1, .i32⟩
  | _, _ => ⟨S18432x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_off2 (i : grid0.Coords) : Fin 1 → Nat :=
  let arg0 : BitVec 32 := BitVec.ofNat 32 (i 0).val
  let v28 : Index := Scalar.indexCast arg0
  ![v28.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S36.size a) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S36) ![v2.toNat] S1.size (k0_off1_inb i)) numel1_S1
  let c3_i32 : BitVec 32 := 3#32
  let v4 : BitVec 32 := Scalar.select v1 v3 c3_i32
  let c0_i32 : BitVec 32 := 0#32
  let c0_i32_0 : BitVec 32 := 0#32
  let c0_i32_1 : BitVec 32 := 0#32
  ![v4.toNat, c0_i32.toNat, c0_i32_0.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S36.size a) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S36) ![v2.toNat] S1.size (k0_off1_inb i)) numel1_S1
  let c3_i32 : BitVec 32 := 3#32
  let v4 : BitVec 32 := Scalar.select v1 v3 c3_i32
  let c0_i32 : BitVec 32 := 0#32
  let c0_i32_0 : BitVec 32 := 0#32
  let c0_i32_1 : BitVec 32 := 0#32
  ![v4.toNat, c0_i32.toNat, c0_i32_0.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S36.size a) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let v1 : BitVec 1 := Scalar.cmpi .slt arg0 v0
  let v2 : Index := Scalar.indexCast arg0
  let v3 : BitVec 32 := pf.at 0 (Rect.unit (s := S36) ![v2.toNat] S1.size (k0_off1_inb i)) numel1_S1
  let c3_i32 : BitVec 32 := 3#32
  let v4 : BitVec 32 := Scalar.select v1 v3 c3_i32
  let c0_i32 : BitVec 32 := 0#32
  let c0_i32_0 : BitVec 32 := 0#32
  let c0_i32_1 : BitVec 32 := 0#32
  ![v4.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S36 : Shape := ⟨1, ![36]⟩
abbrev S1 : Shape := ⟨1, ![1]⟩
abbrev S18432x8x128 : Shape := ⟨3, ![18432, 8, 128]⟩
abbrev S18432x128 : Shape := ⟨2, ![18432, 128]⟩
abbrev S16x1024x512 : Shape := ⟨3, ![16, 1024, 512]⟩
abbrev S16x512x1024 : Shape := ⟨3, ![16, 512, 1024]⟩
abbrev S18432x1024 : Shape := ⟨2, ![18432, 1024]⟩
abbrev S36x512 : Shape := ⟨2, ![36, 512]⟩
abbrev S18432 : Shape := ⟨1, ![18432]⟩
abbrev S4 : Shape := ⟨1, ![4]⟩
abbrev S4x4 : Shape := ⟨2, ![4, 4]⟩
abbrev S16 : Shape := ⟨1, ![16]⟩
abbrev S16x1 : Shape := ⟨2, ![16, 1]⟩
abbrev S1x18432 : Shape := ⟨2, ![1, 18432]⟩
abbrev S16x18432 : Shape := ⟨2, ![16, 18432]⟩
abbrev S_ : Shape := ⟨0, ![]⟩
abbrev S18432x16 : Shape := ⟨2, ![18432, 16]⟩
abbrev S16x512x18432 : Shape := ⟨3, ![16, 512, 18432]⟩
abbrev S16x18432x512 : Shape := ⟨3, ![16, 18432, 512]⟩
abbrev S16x18432x1 : Shape := ⟨3, ![16, 18432, 1]⟩

abbrev nBuf : Space → Nat
  | .hbm => 52
  | .vmem => 0
  | .smem => 0
  | _ => 0

abbrev bufTy : (tb : Table) → Fin (tcTables nBuf tb) → BufTy
  | .hbm, ⟨0, _⟩ => ⟨S36, .i32⟩
  | .hbm, ⟨1, _⟩ => ⟨S1, .i32⟩
  | .hbm, ⟨2, _⟩ => ⟨S18432x8x128, .f32⟩
  | .hbm, ⟨3, _⟩ => ⟨S18432x128, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S18432x1024, .f32⟩
  | .hbm, ⟨8, _⟩ => ⟨S36, .i32⟩
  | .hbm, ⟨9, _⟩ => ⟨S36x512, .i32⟩
  | .hbm, ⟨10, _⟩ => ⟨S18432, .i32⟩
  | .hbm, ⟨11, _⟩ => ⟨S36x512, .i32⟩
  | .hbm, ⟨12, _⟩ => ⟨S18432, .i32⟩
  | .hbm, ⟨13, _⟩ => ⟨S4, .i32⟩
  | .hbm, ⟨14, _⟩ => ⟨S4x4, .i32⟩
  | .hbm, ⟨15, _⟩ => ⟨S16, .i32⟩
  | .hbm, ⟨16, _⟩ => ⟨S16x1, .i32⟩
  | .hbm, ⟨17, _⟩ => ⟨S1x18432, .i32⟩
  | .hbm, ⟨18, _⟩ => ⟨S16x18432, .i32⟩
  | .hbm, ⟨19, _⟩ => ⟨S16x18432, .i32⟩
  | .hbm, ⟨20, _⟩ => ⟨S16x18432, .i1⟩
  | .hbm, ⟨21, _⟩ => ⟨S_, .i32⟩
  | .hbm, ⟨22, _⟩ => ⟨S18432, .i32⟩
  | .hbm, ⟨23, _⟩ => ⟨S18432, .i1⟩
  | .hbm, ⟨24, _⟩ => ⟨S1x18432, .i1⟩
  | .hbm, ⟨25, _⟩ => ⟨S16x18432, .i1⟩
  | .hbm, ⟨26, _⟩ => ⟨S16x18432, .i1⟩
  | .hbm, ⟨27, _⟩ => ⟨S18432x16, .f32⟩
  | .hbm, ⟨28, _⟩ => ⟨S16x18432, .f32⟩
  | .hbm, ⟨29, _⟩ => ⟨S_, .f32⟩
  | .hbm, ⟨30, _⟩ => ⟨S_, .f32⟩
  | .hbm, ⟨31, _⟩ => ⟨S16x18432, .f32⟩
  | .hbm, ⟨32, _⟩ => ⟨S16x18432, .f32⟩
  | .hbm, ⟨33, _⟩ => ⟨S16x512x18432, .f32⟩
  | .hbm, ⟨34, _⟩ => ⟨S16x18432x512, .f32⟩
  | .hbm, ⟨35, _⟩ => ⟨S16x512x18432, .f32⟩
  | .hbm, ⟨36, _⟩ => ⟨S16x18432x512, .f32⟩
  | .hbm, ⟨37, _⟩ => ⟨S16x18432x512, .f32⟩
  | .hbm, ⟨38, _⟩ => ⟨S16x18432x512, .f32⟩
  | .hbm, ⟨39, _⟩ => ⟨S_, .f32⟩
  | .hbm, ⟨40, _⟩ => ⟨S16x18432x512, .f32⟩
  | .hbm, ⟨41, _⟩ => ⟨S16x18432x512, .f32⟩
  | .hbm, ⟨42, _⟩ => ⟨S_, .f32⟩
  | .hbm, ⟨43, _⟩ => ⟨S16x18432x512, .f32⟩
  | .hbm, ⟨44, _⟩ => ⟨S16x18432x512, .f32⟩
  | .hbm, ⟨45, _⟩ => ⟨S16x18432x512, .f32⟩
  | .hbm, ⟨46, _⟩ => ⟨S16x18432x512, .f32⟩
  | .hbm, ⟨47, _⟩ => ⟨S16x18432x1, .f32⟩
  | .hbm, ⟨48, _⟩ => ⟨S16x18432x512, .f32⟩
  | .hbm, ⟨49, _⟩ => ⟨S16x18432x512, .f32⟩
  | .hbm, ⟨50, _⟩ => ⟨S18432x1024, .f32⟩
  | .hbm, ⟨51, _⟩ => ⟨S18432x8x128, .f32⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Axial.lean ====
abbrev S16384x4x4x64 : Shape := ⟨4, ![16384, 4, 4, 64]⟩
abbrev S16384x4x64 : Shape := ⟨3, ![16384, 4, 64]⟩
abbrev S_ : Shape := ⟨0, ![]⟩
abbrev S16384x16x64 : Shape := ⟨3, ![16384, 16, 64]⟩
abbrev S16x16384x64 : Shape := ⟨3, ![16, 16384, 64]⟩
abbrev S4x64x16384 : Shape := ⟨3, ![4, 64, 16384]⟩
abbrev S16384x4x128 : Shape := ⟨3, ![16384, 4, 128]⟩
abbrev S16384x512 : Shape := ⟨2, ![16384, 512]⟩
abbrev S16384x1024 : Shape := ⟨2, ![16384, 1024]⟩
abbrev S4x1024x64 : Shape := ⟨3, ![4, 1024, 64]⟩
abbrev S1x64x2048 : Shape := ⟨3, ![1, 64, 2048]⟩
abbrev S2048x128 : Shape := ⟨2, ![2048, 128]⟩
abbrev S1024x256 : Shape := ⟨2, ![1024, 256]⟩
abbrev S4x1024x128 : Shape := ⟨3, ![4, 1024, 128]⟩
abbrev S1024x128 : Shape := ⟨2, ![1024, 128]⟩
abbrev S1x1024x128 : Shape := ⟨3, ![1, 1024, 128]⟩
abbrev S1x128x64 : Shape := ⟨3, ![1, 128, 64]⟩
abbrev S128x64 : Shape := ⟨2, ![128, 64]⟩
abbrev S64x2048 : Shape := ⟨2, ![64, 2048]⟩
abbrev S128x2048 : Shape := ⟨2, ![128, 2048]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1024x1 : Shape := ⟨2, ![1024, 1]⟩
abbrev S1024x64 : Shape := ⟨2, ![1024, 64]⟩

abbrev nBuf : Space → Nat
  | .hbm => 25
  | .vmem => 10
  | .smem => 0
  | _ => 0

abbrev bufTy : (tb : Table) → Fin (tcTables nBuf tb) → BufTy
  | .hbm, ⟨0, _⟩ => ⟨S16384x4x4x64, .f32⟩
  | .hbm, ⟨1, _⟩ => ⟨S16384x4x64, .f32⟩
  | .hbm, ⟨2, _⟩ => ⟨S16384x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4x4x64, .f32⟩
  | .hbm, ⟨10, _⟩ => ⟨S16384x4x4x64, .f32⟩
  | .hbm, ⟨11, _⟩ => ⟨S16384x4x4x64, .bf16⟩
  | .hbm, ⟨12, _⟩ => ⟨S16384x16x64, .bf16⟩
  | .hbm, ⟨13, _⟩ => ⟨S16x16384x64, .bf16⟩
  | .hbm, ⟨14, _⟩ => ⟨S16384x4x64, .bf16⟩
  | .hbm, ⟨15, _⟩ => ⟨S4x64x16384, .bf16⟩
  | .hbm, ⟨16, _⟩ => ⟨S16384x4x64, .i32⟩
  | .hbm, ⟨17, _⟩ => ⟨S_, .i32⟩
  | .hbm, ⟨18, _⟩ => ⟨S16384x4x64, .i32⟩
  | .hbm, ⟨19, _⟩ => ⟨S16384x4x64, .i1⟩
  | .hbm, ⟨20, _⟩ => ⟨S16384x4x64, .bf16⟩
  | .hbm, ⟨21, _⟩ => ⟨S16384x4x64, .bf16⟩
  | .hbm, ⟨22, _⟩ => ⟨S16384x4x128, .bf16⟩
  | .hbm, ⟨23, _⟩ => ⟨S16384x512, .bf16⟩
  | .hbm, ⟨24, _⟩ => ⟨S16384x1024, .bf16⟩
  | .local _ .vmem, ⟨0, _⟩ => ⟨S4x1024x64, .bf16⟩
  | .local _ .vmem, ⟨1, _⟩ => ⟨S4x1024x64, .bf16⟩
  | .local _ .vmem, ⟨2, _⟩ => ⟨S1x64x2048, .bf16⟩
  | .local _ .vmem, ⟨3, _⟩ => ⟨S1x64x2048, .bf16⟩
  | .local _ .vmem, ⟨4, _⟩ => ⟨S2048x128, .bf16⟩
  | .local _ .vmem, ⟨5, _⟩ => ⟨S2048x128, .bf16⟩
  | .local _ .vmem, ⟨6, _⟩ => ⟨S1024x256, .bf16⟩
  | .local _ .vmem, ⟨7, _⟩ => ⟨S1024x256, .bf16⟩
  | .local _ .vmem, ⟨8, _⟩ => ⟨S4x1024x128, .f32⟩
  | .local _ .vmem, ⟨9, _⟩ => ⟨S4x1024x128, .f32⟩
  | _, _ => ⟨S16384x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v995 : BitVec 1 := Scalar.cmpi .eq arg2 c7_i32
  let v996 : BitVec 32 := Scalar.extui v995
  let c0_i32_725 : BitVec 32 := 0#32
  let v997 : BitVec 1 := Scalar.cmpi .ne v996 c0_i32_725
  v997

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AxialReferenceIdeal.lean ====
abbrev S16384x4x4x64 : Shape := ⟨4, ![16384, 4, 4, 64]⟩
abbrev S16384x4x64 : Shape := ⟨3, ![16384, 4, 64]⟩
abbrev S4x16384x16384x4 : Shape := ⟨4, ![4, 16384, 16384, 4]⟩
abbrev S4x4x16384x16384 : Shape := ⟨4, ![4, 4, 16384, 16384]⟩
abbrev S_ : Shape := ⟨0, ![]⟩
abbrev S4x4x16384 : Shape := ⟨3, ![4, 4, 16384]⟩
abbrev S4x4x16384x1 : Shape := ⟨4, ![4, 4, 16384, 1]⟩
abbrev S4x64x4x16384 : Shape := ⟨4, ![4, 64, 4, 16384]⟩
abbrev S16384x1024 : Shape := ⟨2, ![16384, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x4x4x64, .f32⟩
  | .hbm, ⟨1, _⟩ => ⟨S16384x4x64, .f32⟩
  | .hbm, ⟨2, _⟩ => ⟨S16384x4x64, .f32⟩
  | .hbm, ⟨3, _⟩ => ⟨S4x16384x16384x4, .f32⟩
  | .hbm, ⟨4, _⟩ => ⟨S4x4x16384x16384, .f32⟩
  | .hbm, ⟨5, _⟩ => ⟨S_, .f32⟩
  | .hbm, ⟨6, _⟩ => ⟨S4x4x16384x16384, .f32⟩
  | .hbm, ⟨7, _⟩ => ⟨S4x4x16384x16384, .f32⟩
  | .hbm, ⟨8, _⟩ => ⟨S_, .f32⟩
  | .hbm, ⟨9, _⟩ => ⟨S4x4x16384, .f32⟩
  | .hbm, ⟨10, _⟩ => ⟨S_, .f32⟩
  | .hbm, ⟨11, _⟩ => ⟨S4x4x16384, .f32⟩
  | .hbm, ⟨12, _⟩ => ⟨S4x4x16384, .f32⟩
  | .hbm, ⟨13, _⟩ => ⟨S4x4x16384x1, .f32⟩
  | .hbm, ⟨14, _⟩ => ⟨S4x4x16384x16384, .f32⟩
  | .hbm, ⟨15, _⟩ => ⟨S4x4x16384x16384, .f32⟩
  | .hbm, ⟨16, _⟩ => ⟨S4x4x16384x16384, .f32⟩
  | .hbm, ⟨17, _⟩ => ⟨S_, .f32⟩
  | .hbm, ⟨18, _⟩ => ⟨S4x4x16384, .f32⟩
  | .hbm, ⟨19, _⟩ => ⟨S4x4x16384x1, .f32⟩
  | .hbm, ⟨20, _⟩ => ⟨S4x4x16384x16384, .f32⟩
  | .hbm, ⟨21, _⟩ => ⟨S4x4x16384x16384, .f32⟩
  | .hbm, ⟨22, _⟩ => ⟨S4x64x4x16384, .f32⟩
  | .hbm, ⟨23, _⟩ => ⟨S16384x4x4x64, .f32⟩
  | .hbm, ⟨24, _⟩ => ⟨S16384x1024, .f32⟩
  | .hbm, ⟨25, _⟩ => ⟨S16384x1024, .bf16⟩
  | _, _ => ⟨S16384x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Finite.lean ====
/-
  The precondition read: where it holds, every element of the queries, keys, values and of the four lambda vectors is a real.
-/
module

public import proofs.«01_k».proof.Proof.Gen.Pre_finite
public import Idealize.ShloMosaic.Lib.ReduceAll
public import Idealize.ShloMosaic.Lib.Affine
public import Idealize.ShloMosaic.Lib.WordArith
public import Idealize.ShloMosaic.PureOps.Ideal

@[expose] public section

noncomputable section

namespace Cert.Finite

open Idealize.ShloMosaic Cert.Pre_finite

/-- A value strictly between the two infinities is a real. -/
theorem real_of_bits {a : EReal} (h : IntOp.andi (Ideal.cmp .ogt a (Ideal.ofBits .f32 0xFF800000#32)) (Ideal.cmp .olt a (Ideal.ofBits .f32 0x7F800000#32)) = 1#1) :
    ∃ x : ℝ, a = (x : EReal) := by
  have hn : Ideal.ofBits .f32 0xFF800000#32 = ⊥ := by simp [Ideal.ofBits, Ideal.ieee]
  have hp : Ideal.ofBits .f32 0x7F800000#32 = ⊤ := by simp [Ideal.ofBits, Ideal.ieee]
  rw [hn, hp] at h
  induction a using EReal.rec with
  | bot => simp [Ideal.cmp, IntOp.andi] at h
  | coe x => exact ⟨x, rfl⟩
  | top => simp [Ideal.cmp, IntOp.andi] at h

/-- A conjunction of bits that is 1 has both bits 1. -/
theorem and_left {a b : BitVec 1} (h : IntOp.andi a b = 1#1) : a = 1#1 ∧ b = 1#1 := by
  revert a b; decide

/-- A conjunction of seven bits, likewise. -/
theorem split7 {A B C D E F G : IVec S_ 1} {j : S_.Idx} (h : andi (andi (andi (andi (andi (andi A B) C) D) E) F) G j = 1#1) :
    A j = 1#1 ∧ B j = 1#1 ∧ C j = 1#1 ∧ D j = 1#1 ∧ E j = 1#1 ∧ F j = 1#1 ∧ G j = 1#1 := by
  obtain ⟨h, g⟩ := and_left h
  obtain ⟨h, f⟩ := and_left h
  obtain ⟨h, e⟩ := and_left h
  obtain ⟨h, d⟩ := and_left h
  obtain ⟨h, c⟩ := and_left h
  obtain ⟨a, b⟩ := and_left h
  exact ⟨a, b, c, d, e, f, g⟩

/-- A tested array holds reals only. -/
theorem all_real {s : Shape} {axes : List (Fin s.rank)} (a : FVec Ideal s .f32) (hb : S_.BroadcastsInDim s ![]) (hr : s.ReducesTo axes S_) (hu : 0 < S_.numel) (j : S_.Idx)
    (h : Host.reduce IntOp.andi (andi (cmpf .ogt a (broadcastInDim s ![] hb (constant S_ .f32 0xFF800000#32))) (cmpf .olt a (broadcastInDim s ![] hb (constant S_ .f32 0x7F800000#32))))
      (constantI S_ 1 1#1) hr hu j = 1#1) (i : s.Idx) : ∃ x : ℝ, (a i : EReal) = (x : EReal) :=
  haveI : Subsingleton S_.Idx := ⟨fun a b => funext fun d => d.elim0⟩
  real_of_bits (Host.reduce_andi_all _ _ hr hu j h i)

/-- The precondition makes every tested argument an array of reals. -/
theorem reals [Facts] (a0 a1 : FVec Ideal S16384x8x2x64 .f32) (a2 : FVec Ideal S16384x8x128 .f32) (a3 a4 a5 a6 : FVec Ideal S64 .f32) (a7 : FVec Ideal S128 .f32)
    (h : fn (F := Ideal) a0 a1 a2 a3 a4 a5 a6 a7 = fun _ => 1#1) :
    (∀ i, ∃ x : ℝ, (a0 i : EReal) = (x : EReal)) ∧ (∀ i, ∃ x : ℝ, (a1 i : EReal) = (x : EReal)) ∧ (∀ i, ∃ x : ℝ, (a2 i : EReal) = (x : EReal))
      ∧ (∀ i, ∃ x : ℝ, (a3 i : EReal) = (x : EReal)) ∧ (∀ i, ∃ x : ℝ, (a4 i : EReal) = (x : EReal)) ∧ (∀ i, ∃ x : ℝ, (a5 i : EReal) = (x : EReal))
      ∧ ∀ i, ∃ x : ℝ, (a6 i : EReal) = (x : EReal) := by
  have e := congrFun h (fun d => d.elim0)
  unfold fn fn_part1 fn_part2 at e
  obtain ⟨h0, h1, h2, h3, h4, h5, h6⟩ := split7 e
  clear e h
  exact ⟨all_real a0 Facts.bcast_S_S16384x8x2x64 Facts.reducesTo_S16384x8x2x64_S_d0_1_2_3 Facts.h_S_ _ h0,
    all_real a1 Facts.bcast_S_S16384x8x2x64 Facts.reducesTo_S16384x8x2x64_S_d0_1_2_3 Facts.h_S_ _ h1,
    all_real a2 Facts.bcast_S_S16384x8x128 Facts.reducesTo_S16384x8x128_S_d0_1_2 Facts.h_S_ _ h2,
    all_real a3 Facts.bcast_S_S64 Facts.reducesTo_S64_S_d0 Facts.h_S_ _ h3,
    all_real a4 Facts.bcast_S_S64 Facts.reducesTo_S64_S_d0 Facts.h_S_ _ h4,
    all_real a5 Facts.bcast_S_S64 Facts.reducesTo_S64_S_d0 Facts.h_S_ _ h5,
    all_real a6 Facts.bcast_S_S64 Facts.reducesTo_S64_S_d0 Facts.h_S_ _ h6⟩

end Cert.Finite

end
-- ==== Proof.Softmax.lean ====
/-
  Softmax over the reals computed block by block: a running maximum, an accumulator rescaled whenever the maximum moves,
  and the quotient by the weights' own sum. Nothing here mentions a program.
-/
module

public import Idealize.ShloMosaic.PureOps.Ideal
public import Mathlib.Analysis.SpecialFunctions.Pow.Real
public import Mathlib.Data.EReal.Operations

@[expose] public section

noncomputable section

namespace Cert.Softmax

open Idealize.ShloMosaic Finset

/-- The greatest of finitely many extended reals, from minus infinity. -/
def top {n : Nat} (s : Fin n → EReal) : EReal := Finset.univ.fold max ⊥ s

/-- The greatest of some reals is a real. -/
theorem top_coe {n : Nat} (hn : 0 < n) (s : Fin n → ℝ) : ∃ T : ℝ, top (fun j => (s j : EReal)) = T := by
  have key : ∀ S : Finset (Fin n), S.Nonempty → ∃ T : ℝ, S.fold max (⊥ : EReal) (fun j => (s j : EReal)) = T := by
    intro S hS
    induction hS using Finset.Nonempty.cons_induction with
    | singleton a => exact ⟨s a, by simp⟩
    | cons a S ha hS ih =>
      obtain ⟨T, hT⟩ := ih
      exact ⟨max (s a) T, by rw [Finset.fold_cons, hT]; exact (EReal.coe_strictMono.monotone.map_max).symm⟩
  exact key _ ⟨⟨0, hn⟩, Finset.mem_univ _⟩

/-- The running maximum stays a real. -/
theorem max_top_coe {n : Nat} (hn : 0 < n) (M : ℝ) (s : Fin n → ℝ) : ∃ M' : ℝ, max (M : EReal) (top fun j => (s j : EReal)) = M' := by
  obtain ⟨T, hT⟩ := top_coe hn s
  exact ⟨max M T, by rw [hT]; exact (EReal.coe_strictMono.monotone.map_max).symm⟩

/-- The power of two of a difference of reals. -/
theorem exp2_sub (a b : ℝ) : Ideal.exp2 ((a : EReal) - b) = (((2 : ℝ) ^ (a - b) : ℝ) : EReal) := by
  rw [← EReal.coe_sub]; exact Ideal.exp2_coe _

/-- The exponential of a difference of reals. -/
theorem exp_sub (a b : ℝ) : Ideal.exp ((a : EReal) - b) = ((Real.exp (a - b) : ℝ) : EReal) := by
  rw [← EReal.coe_sub]; exact Ideal.exp_coe _

/-- A sum of extended reals scales by a nonnegative real term by term. -/
theorem sum_mul_coe {ι : Type*} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

/-- A sum of reals, read in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The accumulator over the first `m` keys against the maximum `M`: the values weighted by powers of two of the scores. -/
def accum (f : ℕ → ℝ) (v : ℕ → EReal) (m : ℕ) (M : ℝ) : EReal := ∑ n ∈ range m, (((2 : ℝ) ^ (f n - M) : ℝ) : EReal) * v n

/-- The accumulated sum before any key. -/
theorem accum_zero (f : ℕ → ℝ) (v : ℕ → EReal) (M : ℝ) : accum f v 0 M = 0 := by simp [accum]

/-- One block more: the accumulator rescaled to the new maximum, plus the block's own weighted values. -/
theorem accum_step (f : ℕ → ℝ) (v : ℕ → EReal) (m K : ℕ) (M M' : ℝ) :
    accum f v m M * Ideal.exp2 ((M : EReal) - M') + ∑ j : Fin K, Ideal.exp2 ((f (m + j.val) : EReal) - M') * v (m + j.val) = accum f v (m + K) M' := by
  simp only [exp2_sub]
  unfold accum
  rw [sum_mul_coe _ _ _ (Real.rpow_nonneg (by norm_num) _), Finset.sum_range_add]
  congr 1
  · refine Finset.sum_congr rfl fun n _ => ?_
    rw [mul_right_comm, ← EReal.coe_mul, ← Real.rpow_add (by norm_num : (0 : ℝ) < 2)]
    congr 3
    ring
  · exact (Finset.sum_range (fun k => (((2 : ℝ) ^ (f (m + k) - M') : ℝ) : EReal) * v (m + k))).symm

/-- A softmax weight: the exponential of a score over the exponentials' sum. -/
def wt {N : ℕ} (t : Fin N → ℝ) (j : Fin N) : ℝ := Real.exp (t j) / ∑ i, Real.exp (t i)

/-- The weight is the same after a real is taken from every score. -/
theorem wt_sub {N : ℕ} (t : Fin N → ℝ) (M : ℝ) (j : Fin N) : Real.exp (t j - M) / ∑ i, Real.exp (t i - M) = wt t j := by
  unfold wt
  simp only [Real.exp_sub]
  rw [← Finset.sum_div, div_div_div_cancel_right₀ (Real.exp_ne_zero M)]

/-- and it is the same through powers of two. -/
theorem wt_two {N : ℕ} (s : Fin N → ℝ) (M : ℝ) (j : Fin N) : (2 : ℝ) ^ (s j - M) / ∑ i, (2 : ℝ) ^ (s i - M) = wt (fun i => s i * Real.log 2) j := by
  have h : ∀ x : ℝ, (2 : ℝ) ^ (x - M) = Real.exp (x * Real.log 2 - M * Real.log 2) := fun x => by
    rw [Real.rpow_def_of_pos (by norm_num)]; congr 1; ring
  simp only [h]
  exact wt_sub (fun i => s i * Real.log 2) (M * Real.log 2) j

/-- The sum of the weights is positive. -/
theorem wt_sum_pos {N : ℕ} (hN : 0 < N) (s : Fin N → ℝ) (M : ℝ) : 0 < ∑ i, (2 : ℝ) ^ (s i - M) :=
  Finset.sum_pos (fun _ _ => Real.rpow_pos_of_pos (by norm_num) _) ⟨⟨0, hN⟩, Finset.mem_univ _⟩

/-- The sum of the exponentials is positive. -/
theorem exp_sum_pos {N : ℕ} (hN : 0 < N) (s : Fin N → ℝ) : 0 < ∑ i, Real.exp (s i) :=
  Finset.sum_pos (fun _ _ => Real.exp_pos _) ⟨⟨0, hN⟩, Finset.mem_univ _⟩

/-- A weight is not negative. -/
theorem wt_nonneg {N : ℕ} (t : Fin N → ℝ) (j : Fin N) : 0 ≤ wt t j :=
  div_nonneg (Real.exp_pos _).le (Finset.sum_nonneg fun _ _ => (Real.exp_pos _).le)

/-- A function on the first `N` naturals, read at any natural. -/
def wrap {α : Type*} {N : ℕ} (hN : 0 < N) (f : Fin N → α) (n : ℕ) : α := f ⟨n % N, Nat.mod_lt _ hN⟩

/-- Read at one of the first `N` naturals, it is the function there. -/
theorem wrap_val {α : Type*} {N : ℕ} (hN : 0 < N) (f : Fin N → α) (j : Fin N) : wrap hN f j.val = f j :=
  congrArg f (Fin.ext (Nat.mod_eq_of_lt j.isLt))

/-- The accumulator over all the keys, as a sum over them. -/
theorem accum_all {N : ℕ} (hN : 0 < N) (s : Fin N → ℝ) (v : Fin N → EReal) (M : ℝ) :
    accum (wrap hN s) (wrap hN v) N M = ∑ j, (((2 : ℝ) ^ (s j - M) : ℝ) : EReal) * v j := by
  unfold accum
  rw [Finset.sum_range]
  simp only [wrap_val]

/-- The accumulator over the sum of its own weights: the softmax-weighted values. -/
theorem quot_all {N : ℕ} (hN : 0 < N) (s : Fin N → ℝ) (v : Fin N → EReal) (M : ℝ) :
    Ideal.div (accum (wrap hN s) (wrap hN v) N M) (accum (wrap hN s) (wrap hN fun _ => 1) N M)
      = ∑ j, ((wt (fun i => s i * Real.log 2) j : ℝ) : EReal) * v j := by
  have hL := wt_sum_pos hN s M
  rw [accum_all, accum_all]
  simp only [mul_one]
  rw [← coe_sum, Ideal.div_coe hL.ne', sum_mul_coe _ _ _ (one_div_nonneg.mpr hL.le)]
  refine Finset.sum_congr rfl fun j _ => ?_
  rw [mul_right_comm, ← EReal.coe_mul, mul_one_div, wt_two]

/-- The textbook weights: the exponentials after the greatest score is taken away, over their sum. -/
theorem div_exp {N : ℕ} (hN : 0 < N) (t : Fin N → ℝ) (M : ℝ) (j : Fin N) :
    Ideal.div (Ideal.exp ((t j : EReal) - M)) (∑ i, Ideal.exp ((t i : EReal) - M)) = ((wt t j : ℝ) : EReal) := by
  simp only [exp_sub]
  have hL := exp_sum_pos hN fun i => t i - M
  rw [← coe_sum, Ideal.div_coe hL.ne', ← EReal.coe_mul, mul_one_div, wt_sub]

end Cert.Softmax

end
-- ==== Proof.Step.lean ====
/-
  What one grid point's payloads compute, read at an index over the extended reals: the scores of a block of keys, the
  running maximum, the rescaled accumulator, and the quotient the last block of keys writes out.
-/
module

public import proofs.«01_k».proof.Proof.Gen.KernelIdeal.Skeleton
public import proofs.«01_k».proof.Proof.Softmax
public import Idealize.ShloMosaic.Lib.Pointwise
public import Idealize.ShloMosaic.Lib.Pipeline.Value

@[expose] public section

set_option maxRecDepth 16384

noncomputable section

namespace Cert.KernelIdeal.Step

open Cert.KernelIdeal Cert.KernelIdeal.Gen Cert.Softmax Idealize.ShloMosaic

/-- The word 0xFF800000 is minus infinity. -/
theorem ofBits_neg_inf : Ideal.ofBits .f32 0xFF800000#32 = ⊥ := by
  simp [Ideal.ofBits, Ideal.ieee]

/-- Sixteen copies of a 128-lane block side by side, read at column j: the block at column j mod 128. -/
theorem tile16_apply (x : FVec Ideal S1024x128 .f32) (h) (r : Fin 1024) (j : Fin 2048) :
    concatenate S1024x2048 1 [⟨S1024x128, x⟩, ⟨S1024x128, x⟩, ⟨S1024x128, x⟩, ⟨S1024x128, x⟩, ⟨S1024x128, x⟩, ⟨S1024x128, x⟩, ⟨S1024x128, x⟩, ⟨S1024x128, x⟩,
      ⟨S1024x128, x⟩, ⟨S1024x128, x⟩, ⟨S1024x128, x⟩, ⟨S1024x128, x⟩, ⟨S1024x128, x⟩, ⟨S1024x128, x⟩, ⟨S1024x128, x⟩, ⟨S1024x128, x⟩] h (ix2 r j)
      = x (ix2 r ⟨j.val % 128, Nat.mod_lt _ (by decide)⟩) :=
  concatenate_replicate_apply (t := S1024x2048) (s₁ := S1024x128) 1 16 x h rfl (ix2 r j) (ix2 r ⟨j.val % 128, Nat.mod_lt _ (by decide)⟩) rfl
    (fun b hb => by
      match b with
      | ⟨0, _⟩ => rfl
      | ⟨1, _⟩ => exact absurd rfl hb)

/-- Two copies likewise. -/
theorem tile2_apply (x : FVec Ideal S1024x128 .f32) (h) (r : Fin 1024) (j : Fin 256) :
    concatenate S1024x256 1 [⟨S1024x128, x⟩, ⟨S1024x128, x⟩] h (ix2 r j)
      = x (ix2 r ⟨j.val % 128, Nat.mod_lt _ (by decide)⟩) :=
  concatenate_replicate_apply (t := S1024x256) (s₁ := S1024x128) 1 2 x h rfl (ix2 r j) (ix2 r ⟨j.val % 128, Nat.mod_lt _ (by decide)⟩) rfl
    (fun b hb => by
      match b with
      | ⟨0, _⟩ => rfl
      | ⟨1, _⟩ => exact absurd rfl hb)

/-- A row's scores against the block of keys. -/
def score (a : Vec Ideal S1x1024x64 .bf16) (b : Vec Ideal S1x64x2048 .bf16) (r : Fin 1024) (j : Fin 2048) : EReal :=
  ∑ d : Fin 64, a (ix3 0 r d) * b (ix3 0 d j)

/-- The scores of stream 0. -/
theorem pay9_apply (a : Vec Ideal S1x1024x64 .bf16) (b : Vec Ideal S1x64x2048 .bf16) (r : Fin 1024) (j : Fin 2048) :
    k0_pay9 a b (ix2 r j) = score a b r j := by
  unfold k0_pay9 score
  pointwise

/-- The scores of stream 1. -/
theorem pay10_apply (a : Vec Ideal S1x1024x64 .bf16) (b : Vec Ideal S1x64x2048 .bf16) (r : Fin 1024) (j : Fin 2048) :
    k0_pay10 a b (ix2 r j) = score a b r j := by
  unfold k0_pay10 score
  pointwise

/-- The new running maximum of stream 1, from the scores: the old one against the greatest score of the row. -/
theorem pay18_apply (s : FVec Ideal S1024x2048 .f32) (mo : Vec Ideal S1x1024x128 .f32) (r : Fin 1024) (l : Fin 128) :
    k0_pay18 s mo (ix2 r l) = max (mo (ix3 0 r l)) (top fun j => s (ix2 r j)) := by
  unfold k0_pay18 k0_pay17 top
  rw [← ofBits_neg_inf]
  pointwise

/-- The accumulator of stream 1 after the block: the old one rescaled, plus the block's weighted values. -/
theorem pay19_apply (s : FVec Ideal S1024x2048 .f32) (mo : Vec Ideal S1x1024x128 .f32) (v : Vec Ideal S2048x256 .bf16)
    (acc : Vec Ideal S1x1024x256 .f32) (r : Fin 1024) (e : Fin 256) :
    k0_pay19 s mo v acc (ix3 0 r e)
      = acc (ix3 0 r e) * Ideal.exp2 (mo (ix3 0 r ⟨e.val % 128, Nat.mod_lt _ (by decide)⟩)
            - max (mo (ix3 0 r ⟨e.val % 128, Nat.mod_lt _ (by decide)⟩)) (top fun j => s (ix2 r j)))
        + ∑ j : Fin 2048, Ideal.exp2 (s (ix2 r j)
            - max (mo (ix3 0 r ⟨j.val % 128, Nat.mod_lt _ (by decide)⟩)) (top fun j => s (ix2 r j))) * v (ix2 j e) := by
  simp only [← pay18_apply s mo]
  unfold k0_pay19
  generalize k0_pay18 s mo = g
  generalize hA : concatenate S1024x2048 1 _ _ = A
  generalize hB : concatenate S1024x256 1 _ _ = B
  have eA : ∀ j, A (ix2 r j) = g (ix2 r ⟨j.val % 128, Nat.mod_lt _ (by decide)⟩) := fun j => by rw [← hA]; exact tile16_apply ..
  have eB : B (ix2 r e) = Ideal.exp2 (mo (ix3 0 r ⟨e.val % 128, Nat.mod_lt _ (by decide)⟩) - g (ix2 r ⟨e.val % 128, Nat.mod_lt _ (by decide)⟩)) := by
    rw [← hB]; refine (tile2_apply ..).trans ?_
    unfold k0_pay17
    pointwise
    rfl
  pointwise
  simp only [eA, eB]
  rfl

/-- The running maximum of stream 0 is computed as stream 1's. -/
theorem pay12_eq (a : Vec Ideal S1x1024x64 .bf16) (b : Vec Ideal S1x64x2048 .bf16) (mo : Vec Ideal S1x1024x128 .f32) :
    k0_pay12 a b mo = k0_pay18 (k0_pay9 a b) mo := rfl

/-- The accumulator of stream 0 is computed as stream 1's. -/
theorem pay15_eq (a : Vec Ideal S1x1024x64 .bf16) (b : Vec Ideal S1x64x2048 .bf16) (mo : Vec Ideal S1x1024x128 .f32)
    (v : Vec Ideal S2048x256 .bf16) (acc : Vec Ideal S1x1024x256 .f32) :
    k0_pay15 (k0_pay13 a b mo) (k0_pay14 a b mo v) acc = k0_pay19 (k0_pay9 a b) mo v acc := rfl

/-- The maximum stored for stream 0. -/
theorem pay16_apply (g : FVec Ideal S1024x128 .f32) (r : Fin 1024) (l : Fin 128) : k0_pay16 g (ix3 0 r l) = g (ix2 r l) := by
  unfold k0_pay16
  pointwise

/-- The maximum stored for stream 1. -/
theorem pay1_apply (g : FVec Ideal S1024x128 .f32) (r : Fin 1024) (l : Fin 128) : k0_pay1 g (ix3 0 r l) = g (ix2 r l) := by
  unfold k0_pay1
  pointwise

/-- The starting maximum of either stream. -/
theorem pay5_apply (i : S1x1024x128.Idx) : k0_pay5 (F := Ideal) i = Ideal.ofBits .f32 0xEFA18F08#32 := rfl
/-- The second stream's. -/
theorem pay7_apply (i : S1x1024x128.Idx) : k0_pay7 (F := Ideal) i = Ideal.ofBits .f32 0xEFA18F08#32 := rfl

/-- The starting accumulator of either stream is zero. -/
theorem pay6_apply (i : S1x1024x256.Idx) : k0_pay6 (F := Ideal) i = 0 := by
  unfold k0_pay6
  idx_vars i
  pointwise
/-- The second stream's. -/
theorem pay8_apply (i : S1x1024x256.Idx) : k0_pay8 (F := Ideal) i = 0 := by
  unfold k0_pay8
  idx_vars i
  pointwise

/-- The mixing weight of the second stream, from the four rows of weights. -/
def mix (lam : Vec Ideal S4x64 .f32) : EReal :=
  Ideal.exp (∑ d : Fin 64, lam (ix2 0 d) * lam (ix2 1 d)) - Ideal.exp (∑ d : Fin 64, lam (ix2 2 d) * lam (ix2 3 d))
    + Ideal.ofBits .f32 0x3E4CCCCD#32

/-- A row normalised by its root mean square, times its weights, times 0.8. -/
def normed (o g : Fin 128 → EReal) (e : Fin 128) : EReal :=
  o e * Ideal.rsqrt (Ideal.div (∑ x : Fin 128, o x * o x) (Ideal.ofBits .f32 0x43000000#32) + Ideal.ofBits .f32 0x358637BD#32)
    * g e * Ideal.ofBits .f32 0x3F4CCCCD#32

/-- The row an accumulator holds, over its column of weights' sums. -/
def quot (a : Vec Ideal S1x1024x256 .f32) (r : Fin 1024) (e : Fin 128) : EReal :=
  Ideal.div (a (ix3 0 r ⟨e.val, by omega⟩)) (a (ix3 0 r 128))

/-- What the last block of keys writes out. -/
theorem pay2_apply (a0 a1 : Vec Ideal S1x1024x256 .f32) (lam : Vec Ideal S4x64 .f32) (g : Vec Ideal S1x128 .f32) (r : Fin 1024) (e : Fin 128) :
    k0_pay2 (k0_pay3 g) (k0_pay4 a0 a1 lam) (ix2 r e)
      = normed (fun x => quot a0 r x - mix lam * quot a1 r x) (fun x => g (ix2 0 x)) e := by
  unfold k0_pay2 k0_pay3 k0_pay4 normed quot mix
  pointwise

end Cert.KernelIdeal.Step

end
-- ==== Proof.Case.lean ====
/-
  What one grid point leaves in the two carried buffers and in the output block, from what the point before left.
-/
module

public import proofs.«01_k».proof.Proof.Gen.KernelIdeal.Frame
public import proofs.«01_k».proof.Proof.Step
public import Idealize.ShloMosaic.Lib.WritesUnit
public import Idealize.ShloMosaic.Lib.Pipeline.ValueKit
public import Idealize.ShloMosaic.Lib.Tactic

@[expose] public section

set_option maxRecDepth 16384

noncomputable section

namespace Cert.KernelIdeal.Case

open Cert.KernelIdeal Cert.KernelIdeal.Gen Cert.KernelIdeal.Step Cert.Softmax Idealize.ShloMosaic Idealize.ShloMosaic.TcCoe Idealize.SL.Sem

section Halves

variable {n k : Nat} {e : EltTy}

/-- Loading one of the two halves of a buffer reads that half. -/
theorem ld_half (s : Fin 2) (x : Vec Ideal ⟨3, ![2, n, k]⟩ e) (inb) (r : Fin n) (l : Fin k) :
    View.ld x (Rect.unit (s := ⟨3, ![2, n, k]⟩) ![s.val, 0, 0] ![1, n, k] inb) (ix3 0 r l) = x (ix3 s r l) :=
  View.ld_unit_apply_of _ _ _ _ _ _ (fun a => by
    match a with
    | ⟨0, _⟩ => show s.val = s.val + 0; omega
    | ⟨1, _⟩ => show r.val = 0 + r.val; omega
    | ⟨2, _⟩ => show l.val = 0 + l.val; omega)

/-- After a store of one half, that half holds what was stored. -/
theorem canon_hit (s : Fin 2) (inb) (w : Vec Ideal ⟨3, ![1, n, k]⟩ e) (L : List (View.Piece (Elt Ideal) ⟨3, ![2, n, k]⟩ e)) (r : Fin n) (l : Fin k) :
    View.canon (⟨Rect.unit (s := ⟨3, ![2, n, k]⟩) ![s.val, 0, 0] ![1, n, k] inb, w⟩ :: L) (ix3 s r l) = w (ix3 0 r l) := by
  have h : (ix3 s r l : (⟨3, ![2, n, k]⟩ : Shape).Idx) = (Rect.unit (s := ⟨3, ![2, n, k]⟩) ![s.val, 0, 0] ![1, n, k] inb).emb (ix3 0 r l) :=
    funext fun a => Fin.ext ((by
      match a with
      | ⟨0, _⟩ => show s.val = s.val + 0; omega
      | ⟨1, _⟩ => show r.val = 0 + r.val; omega
      | ⟨2, _⟩ => show l.val = 0 + l.val; omega : ((ix3 s r l : (⟨3, ![2, n, k]⟩ : Shape).Idx) a : Nat) = ![s.val, 0, 0] a + (ix3 0 r l : (⟨3, ![1, n, k]⟩ : Shape).Idx) a).trans
        (Rect.idx_unit_val (s := ⟨3, ![2, n, k]⟩) ![s.val, 0, 0] ![1, n, k] inb (ix3 0 r l) a).symm)
  rw [h]
  exact View.canon_cons_emb _ _ _ _

/-- and the other half what it held before. -/
theorem canon_miss (s s' : Fin 2) (hs : s ≠ s') (inb) (w : Vec Ideal ⟨3, ![1, n, k]⟩ e) (L : List (View.Piece (Elt Ideal) ⟨3, ![2, n, k]⟩ e)) (r : Fin n) (l : Fin k) :
    View.canon (⟨Rect.unit (s := ⟨3, ![2, n, k]⟩) ![s'.val, 0, 0] ![1, n, k] inb, w⟩ :: L) (ix3 s r l) = View.canon L (ix3 s r l) := by
  refine View.canon_cons_of_not_mem _ L fun hm => hs ?_
  obtain ⟨i, hi, he⟩ := (LoadRect.mem_set _).mp hm (0 : Fin 3)
  have hi1 : i < 1 := hi
  have he' : s.val = s'.val + 1 * i := he
  exact Fin.ext (by omega)

/-- A half read back after stores, from what the stores left. -/
theorem cov_half {sig : RefSig} {κ : Kind} {sp : Space} (s : Fin 2) (v : View sig κ sp ⟨3, ![2, n, k]⟩ e) (L : List (View.Piece (Elt Ideal) ⟨3, ![2, n, k]⟩ e)) (inb) (r : Fin n) (l : Fin k) :
    v.readCov L (Rect.unit (s := ⟨3, ![2, n, k]⟩) ![s.val, 0, 0] ![1, n, k] inb).toLoadRect (ix3 0 r l) = View.canon L (ix3 s r l) := by
  rw [View.readCov_eq_canon']
  exact ld_half s (View.canon L) inb r l

end Halves

/-- A row's scores in one of the two streams. -/
def sc (x0 : Vec Ideal S2x1024x64 .bf16) (x1 : Vec Ideal S2x64x2048 .bf16) (s : Fin 2) (r : Fin 1024) (j : Fin 2048) : EReal :=
  ∑ d : Fin 64, x0 (ix3 s r d) * x1 (ix3 s d j)

/-- The running maximum after a block. -/
def newMax (x0 : Vec Ideal S2x1024x64 .bf16) (x1 : Vec Ideal S2x64x2048 .bf16) (mo : Fin 128 → EReal) (s : Fin 2) (r : Fin 1024) (l : Fin 128) : EReal :=
  max (mo l) (top (sc x0 x1 s r))

/-- The accumulator after a block. -/
def newAcc (x0 : Vec Ideal S2x1024x64 .bf16) (x1 : Vec Ideal S2x64x2048 .bf16) (x2 : Vec Ideal S2048x256 .bf16) (mo : Fin 128 → EReal) (ac : Fin 256 → EReal)
    (s : Fin 2) (r : Fin 1024) (e : Fin 256) : EReal :=
  ac e * Ideal.exp2 (mo ⟨e.val % 128, Nat.mod_lt _ (by decide)⟩ - newMax x0 x1 mo s r ⟨e.val % 128, Nat.mod_lt _ (by decide)⟩)
    + ∑ j : Fin 2048, Ideal.exp2 (sc x0 x1 s r j - newMax x0 x1 mo s r ⟨j.val % 128, Nat.mod_lt _ (by decide)⟩) * x2 (ix2 j e)

/-! The same at each of the two halves. -/

section Literal

variable {n k : Nat} {e : EltTy}

/-- Loading the first stream reads the array there. -/
theorem ld0 (x : Vec Ideal ⟨3, ![2, n, k]⟩ e) (inb) (r : Fin n) (l : Fin k) :
    View.ld x (Rect.unit (s := ⟨3, ![2, n, k]⟩) ![0, 0, 0] ![1, n, k] inb) (ix3 0 r l) = x (ix3 0 r l) := ld_half 0 x inb r l
/-- Loading the second stream reads the array there. -/
theorem ld1 (x : Vec Ideal ⟨3, ![2, n, k]⟩ e) (inb) (r : Fin n) (l : Fin k) :
    View.ld x (Rect.unit (s := ⟨3, ![2, n, k]⟩) ![1, 0, 0] ![1, n, k] inb) (ix3 0 r l) = x (ix3 1 r l) := ld_half 1 x inb r l
/-- A store of the first stream is read back. -/
theorem hit0 (inb) (w : Vec Ideal ⟨3, ![1, n, k]⟩ e) (L : List (View.Piece (Elt Ideal) ⟨3, ![2, n, k]⟩ e)) (r : Fin n) (l : Fin k) :
    View.canon (⟨Rect.unit (s := ⟨3, ![2, n, k]⟩) ![0, 0, 0] ![1, n, k] inb, w⟩ :: L) (ix3 0 r l) = w (ix3 0 r l) := canon_hit 0 inb w L r l
/-- A store of the second stream is read back. -/
theorem hit1 (inb) (w : Vec Ideal ⟨3, ![1, n, k]⟩ e) (L : List (View.Piece (Elt Ideal) ⟨3, ![2, n, k]⟩ e)) (r : Fin n) (l : Fin k) :
    View.canon (⟨Rect.unit (s := ⟨3, ![2, n, k]⟩) ![1, 0, 0] ![1, n, k] inb, w⟩ :: L) (ix3 1 r l) = w (ix3 0 r l) := canon_hit 1 inb w L r l
/-- A store of the first stream leaves the second. -/
theorem miss0 (inb) (w : Vec Ideal ⟨3, ![1, n, k]⟩ e) (L : List (View.Piece (Elt Ideal) ⟨3, ![2, n, k]⟩ e)) (r : Fin n) (l : Fin k) :
    View.canon (⟨Rect.unit (s := ⟨3, ![2, n, k]⟩) ![1, 0, 0] ![1, n, k] inb, w⟩ :: L) (ix3 0 r l) = View.canon L (ix3 0 r l) := canon_miss 0 1 (by decide) inb w L r l
/-- A store of the second stream leaves the first. -/
theorem miss1 (inb) (w : Vec Ideal ⟨3, ![1, n, k]⟩ e) (L : List (View.Piece (Elt Ideal) ⟨3, ![2, n, k]⟩ e)) (r : Fin n) (l : Fin k) :
    View.canon (⟨Rect.unit (s := ⟨3, ![2, n, k]⟩) ![0, 0, 0] ![1, n, k] inb, w⟩ :: L) (ix3 1 r l) = View.canon L (ix3 1 r l) := canon_miss 1 0 (by decide) inb w L r l
/-- What is read of the first stream after the stores. -/
theorem cov0 {sig : RefSig} {κ : Kind} {sp : Space} (v : View sig κ sp ⟨3, ![2, n, k]⟩ e) (L : List (View.Piece (Elt Ideal) ⟨3, ![2, n, k]⟩ e)) (inb) (r : Fin n) (l : Fin k) :
    v.readCov L (Rect.unit (s := ⟨3, ![2, n, k]⟩) ![0, 0, 0] ![1, n, k] inb).toLoadRect (ix3 0 r l) = View.canon L (ix3 0 r l) := cov_half 0 v L inb r l
/-- What is read of the second stream after the stores. -/
theorem cov1 {sig : RefSig} {κ : Kind} {sp : Space} (v : View sig κ sp ⟨3, ![2, n, k]⟩ e) (L : List (View.Piece (Elt Ideal) ⟨3, ![2, n, k]⟩ e)) (inb) (r : Fin n) (l : Fin k) :
    v.readCov L (Rect.unit (s := ⟨3, ![2, n, k]⟩) ![1, 0, 0] ![1, n, k] inb).toLoadRect (ix3 0 r l) = View.canon L (ix3 1 r l) := cov_half 1 v L inb r l

end Literal

section Cases

variable (c : Dev nD) (i : grid0.Coords) (arg3 : Memref sig .tc .vmem S2x1024x64 .bf16) (harg3 : arg3.IsWhole) (arg4 : Memref sig .tc .vmem S2x64x2048 .bf16) (harg4 : arg4.IsWhole)
  (arg5 : Memref sig .tc .vmem S2048x256 .bf16) (harg5 : arg5.IsWhole) (arg6 : Memref sig .tc .vmem S4x64 .f32) (harg6 : arg6.IsWhole) (arg7 : Memref sig .tc .vmem S1x128 .f32) (harg7 : arg7.IsWhole)
  (arg8 : Memref sig .tc .vmem S1024x128 .bf16) (harg8 : arg8.IsWhole) (arg9 : Memref sig .tc .vmem S2x1024x128 .f32) (harg9 : arg9.IsWhole) (arg10 : Memref sig .tc .vmem S2x1024x256 .f32) (harg10 : arg10.IsWhole)
  (x0 : Vec Ideal S2x1024x64 .bf16) (x1 : Vec Ideal S2x64x2048 .bf16) (x2 : Vec Ideal S2048x256 .bf16) (x3 : Vec Ideal S4x64 .f32) (x4 : Vec Ideal S1x128 .f32)
  (xs0 : Vec Ideal S2x1024x128 .f32) (xs1 : Vec Ideal S2x1024x256 .f32)

set_option backward.isDefEq.respectTransparency false in
/-- The running maximum after a first block of keys. -/
theorem max_A (hc0 : cond0_0 i) (hc1 : ¬cond0_1 i) (s : Fin 2) (r : Fin 1024) (l : Fin 128) :
    sout0_A_0 c i arg3 harg3 arg4 harg4 arg5 harg5 arg6 harg6 arg7 harg7 arg8 harg8 arg9 harg9 arg10 harg10 hc0 hc1 x0 x1 x2 x3 x4 (ix3 s r l) = newMax x0 x1 (fun _ => Ideal.ofBits .f32 0xEFA18F08#32) s r l := by
  frame_out
  obtain rfl | rfl : s = 0 ∨ s = 1 := by omega
  all_goals simp only [ld0 x0, ld1 x0, ld0 x1, ld1 x1, hit0, hit1, miss0, miss1, cov0, cov1, pay1_apply, pay16_apply, pay18_apply, pay19_apply, pay12_eq, pay15_eq, pay9_apply, pay10_apply, pay5_apply, pay6_apply, pay7_apply, pay8_apply, score]
  all_goals rfl

/-- The accumulator after a first block of keys. -/
theorem acc_A (hc0 : cond0_0 i) (hc1 : ¬cond0_1 i) (s : Fin 2) (r : Fin 1024) (e : Fin 256) :
    sout0_A_1 c i arg3 harg3 arg4 harg4 arg5 harg5 arg6 harg6 arg7 harg7 arg8 harg8 arg9 harg9 arg10 harg10 hc0 hc1 x0 x1 x2 x3 x4 (ix3 s r e) = newAcc x0 x1 x2 (fun _ => Ideal.ofBits .f32 0xEFA18F08#32) (fun _ => 0) s r e := by
  frame_out
  obtain rfl | rfl : s = 0 ∨ s = 1 := by omega
  all_goals simp only [ld0 x0, ld1 x0, ld0 x1, ld1 x1, hit0, hit1, miss0, miss1, cov0, cov1, pay1_apply, pay16_apply, pay18_apply, pay19_apply, pay12_eq, pay15_eq, pay9_apply, pay10_apply, pay5_apply, pay6_apply, pay7_apply, pay8_apply, score]
  all_goals rfl

set_option backward.isDefEq.respectTransparency false in
/-- The running maximum after a middle block of keys. -/
theorem max_B (hc0 : ¬cond0_0 i) (hc1 : ¬cond0_1 i) (s : Fin 2) (r : Fin 1024) (l : Fin 128) :
    sout0_B_0 c i arg3 harg3 arg4 harg4 arg5 harg5 arg6 harg6 arg7 harg7 arg8 harg8 arg9 harg9 arg10 harg10 hc0 hc1 x0 x1 x2 x3 x4 xs0 xs1 (ix3 s r l) = newMax x0 x1 (fun l => xs0 (ix3 s r l)) s r l := by
  frame_out
  obtain rfl | rfl : s = 0 ∨ s = 1 := by omega
  all_goals simp only [ld0 x0, ld1 x0, ld0 x1, ld1 x1, ld0 xs0, ld1 xs0, ld0 xs1, ld1 xs1, hit0, hit1, miss0, miss1, cov0, cov1, pay1_apply, pay16_apply, pay18_apply, pay19_apply, pay12_eq, pay15_eq, pay9_apply, pay10_apply, pay5_apply, pay6_apply, pay7_apply, pay8_apply, score]
  all_goals rfl

/-- The accumulator after a middle block of keys. -/
theorem acc_B (hc0 : ¬cond0_0 i) (hc1 : ¬cond0_1 i) (s : Fin 2) (r : Fin 1024) (e : Fin 256) :
    sout0_B_1 c i arg3 harg3 arg4 harg4 arg5 harg5 arg6 harg6 arg7 harg7 arg8 harg8 arg9 harg9 arg10 harg10 hc0 hc1 x0 x1 x2 x3 x4 xs0 xs1 (ix3 s r e) = newAcc x0 x1 x2 (fun l => xs0 (ix3 s r l)) (fun e => xs1 (ix3 s r e)) s r e := by
  frame_out
  obtain rfl | rfl : s = 0 ∨ s = 1 := by omega
  all_goals simp only [ld0 x0, ld1 x0, ld0 x1, ld1 x1, ld0 xs0, ld1 xs0, ld0 xs1, ld1 xs1, hit0, hit1, miss0, miss1, cov0, cov1, pay1_apply, pay16_apply, pay18_apply, pay19_apply, pay12_eq, pay15_eq, pay9_apply, pay10_apply, pay5_apply, pay6_apply, pay7_apply, pay8_apply, score]
  all_goals rfl

set_option backward.isDefEq.respectTransparency false in
/-- The running maximum after a last block of keys. -/
theorem max_C (hc0 : ¬cond0_0 i) (hc1 : cond0_1 i) (s : Fin 2) (r : Fin 1024) (l : Fin 128) :
    sout0_C_0 c i arg3 harg3 arg4 harg4 arg5 harg5 arg6 harg6 arg7 harg7 arg8 harg8 arg9 harg9 arg10 harg10 hc0 hc1 x0 x1 x2 x3 x4 xs0 xs1 (ix3 s r l) = newMax x0 x1 (fun l => xs0 (ix3 s r l)) s r l := by
  frame_out
  obtain rfl | rfl : s = 0 ∨ s = 1 := by omega
  all_goals simp only [ld0 x0, ld1 x0, ld0 x1, ld1 x1, ld0 xs0, ld1 xs0, ld0 xs1, ld1 xs1, hit0, hit1, miss0, miss1, cov0, cov1, pay1_apply, pay16_apply, pay18_apply, pay19_apply, pay12_eq, pay15_eq, pay9_apply, pay10_apply, pay5_apply, pay6_apply, pay7_apply, pay8_apply, score]
  all_goals rfl

/-- The accumulator after a last block of keys. -/
theorem acc_C (hc0 : ¬cond0_0 i) (hc1 : cond0_1 i) (s : Fin 2) (r : Fin 1024) (e : Fin 256) :
    sout0_C_1 c i arg3 harg3 arg4 harg4 arg5 harg5 arg6 harg6 arg7 harg7 arg8 harg8 arg9 harg9 arg10 harg10 hc0 hc1 x0 x1 x2 x3 x4 xs0 xs1 (ix3 s r e) = newAcc x0 x1 x2 (fun l => xs0 (ix3 s r l)) (fun e => xs1 (ix3 s r e)) s r e := by
  frame_out
  obtain rfl | rfl : s = 0 ∨ s = 1 := by omega
  all_goals simp only [ld0 x0, ld1 x0, ld0 x1, ld1 x1, ld0 xs0, ld1 xs0, ld0 xs1, ld1 xs1, hit0, hit1, miss0, miss1, cov0, cov1, pay1_apply, pay16_apply, pay18_apply, pay19_apply, pay12_eq, pay15_eq, pay9_apply, pay10_apply, pay5_apply, pay6_apply, pay7_apply, pay8_apply, score]
  all_goals rfl

set_option backward.isDefEq.respectTransparency false in
/-- What a last block of keys writes out. -/
theorem out_C (hc0 : ¬cond0_0 i) (hc1 : cond0_1 i) (r : Fin 1024) (e : Fin 128) :
    out0_C_5 c i arg3 harg3 arg4 harg4 arg5 harg5 arg6 harg6 arg7 harg7 arg8 harg8 arg9 harg9 arg10 harg10 hc0 hc1 x0 x1 x2 x3 x4 xs0 xs1 (ix2 r e)
      = normed (fun x => Ideal.div (newAcc x0 x1 x2 (fun l => xs0 (ix3 0 r l)) (fun e => xs1 (ix3 0 r e)) 0 r ⟨x.val, by omega⟩)
              (newAcc x0 x1 x2 (fun l => xs0 (ix3 0 r l)) (fun e => xs1 (ix3 0 r e)) 0 r 128)
            - mix x3 * Ideal.div (newAcc x0 x1 x2 (fun l => xs0 (ix3 1 r l)) (fun e => xs1 (ix3 1 r e)) 1 r ⟨x.val, by omega⟩)
              (newAcc x0 x1 x2 (fun l => xs0 (ix3 1 r l)) (fun e => xs1 (ix3 1 r e)) 1 r 128)) (fun x => x4 (ix2 0 x)) e := by
  frame_out
  simp only [pay2_apply, quot, ld0 x0, ld1 x0, ld0 x1, ld1 x1, ld0 xs0, ld1 xs0, ld0 xs1, ld1 xs1, hit0, hit1, miss0, miss1, cov0, cov1, pay1_apply, pay16_apply, pay18_apply, pay19_apply, pay12_eq, pay15_eq, pay9_apply, pay10_apply, pay5_apply, pay6_apply, pay7_apply, pay8_apply, score]
  rfl

end Cases

end Cert.KernelIdeal.Case

end
-- ==== Proof.Blocks.lean ====
/-
  The blocks a grid point reads, at an index, as the call's arguments: the scaled queries, the keys, the values beside their
  column of ones, and the two small operands.
-/
module

public import proofs.«01_k».proof.Proof.Gen.KernelIdeal.Frame
public import Idealize.ShloMosaic.Lib.Pointwise
public import Idealize.ShloMosaic.Lib.StableHlo.ReadAt
public import Idealize.ShloMosaic.Lib.Pipeline.ValueKit
public import Idealize.ShloMosaic.Lib.Tactic
public import Idealize.ShloMosaic.Lib.Claim

@[expose] public section

set_option maxRecDepth 16384

noncomputable section

namespace Cert.KernelIdeal.Blocks

open Cert.KernelIdeal Cert.KernelIdeal.Gen Idealize.ShloMosaic Idealize.ShloMosaic.TcCoe Idealize.SL.Sem

/-- Where each window's block lies: point `t` is key block `t % 8` of query block `t / 8 % 16` of head `t / 128`. -/
theorem idx0 : ∀ t : Fin cfg0.N, win0_0.index t = ![t.val / 128, t.val / 8 % 16, 0] :=
  (by decide +kernel : ∀ t : Fin grid0.N, _)
/-- The index map of the keys' blocks. -/
theorem idx1 : ∀ t : Fin cfg0.N, win0_1.index t = ![t.val / 128, 0, t.val % 8] :=
  (by decide +kernel : ∀ t : Fin grid0.N, _)
/-- The index map of the values' blocks. -/
theorem idx2 : ∀ t : Fin cfg0.N, win0_2.index t = ![t.val % 8, t.val / 128] :=
  (by decide +kernel : ∀ t : Fin grid0.N, _)
/-- The lambda rows are one block. -/
theorem idx3 : ∀ t : Fin cfg0.N, win0_3.index t = ![0, 0] :=
  (by decide +kernel : ∀ t : Fin grid0.N, _)
/-- The gain is one block. -/
theorem idx4 : ∀ t : Fin cfg0.N, win0_4.index t = ![0, 0] :=
  (by decide +kernel : ∀ t : Fin grid0.N, _)

variable (m : (ℓ : Loc nD τ sig) → Buf (Elt Ideal) ℓ) (c : Dev nD)

/-- The number of grid points. -/
theorem lt_N (t : Fin cfg0.N) : t.val < 1024 := lt_of_lt_of_eq t.isLt N_0

/-- The query block's row `r` of stream `s`. -/
theorem q_blk (t : Fin cfg0.N) (s : Fin 2) (r : Fin 1024) (d : Fin 64) :
    iblk m c 0 t (ix3 s r d) = V m c main_v7 (ix3 ⟨2 * (t.val / 128) + s.val, by have := lt_N t; omega⟩ ⟨1024 * (t.val / 8 % 16) + r.val, by omega⟩ d) := by
  blk_ext [iblk, idx0 t]

/-- The key block's column `j` of stream `s`. -/
theorem k_blk (t : Fin cfg0.N) (s : Fin 2) (d : Fin 64) (j : Fin 2048) :
    iblk m c 1 t (ix3 s d j) = V m c main_v10 (ix3 ⟨2 * (t.val / 128) + s.val, by have := lt_N t; omega⟩ d ⟨2048 * (t.val % 8) + j.val, by omega⟩) := by
  blk_ext [iblk, idx1 t]

/-- The value block's row `j`. -/
theorem v_blk (t : Fin cfg0.N) (j : Fin 2048) (e : Fin 256) :
    iblk m c 2 t (ix2 j e) = V m c main_v17 (ix2 ⟨2048 * (t.val % 8) + j.val, by omega⟩ ⟨256 * (t.val / 128) + e.val, by have := lt_N t; omega⟩) := by
  blk_ext [iblk, idx2 t]

/-- The block of lambda rows. -/
theorem lam_blk (t : Fin cfg0.N) (a : Fin 4) (d : Fin 64) : iblk m c 3 t (ix2 a d) = V m c main_v22 (ix2 a d) := by
  blk_ext [iblk, idx3 t]

/-- The block of the gain. -/
theorem sub_blk (t : Fin cfg0.N) (e : Fin 128) : iblk m c 4 t (ix2 0 e) = V m c main_v23 (ix2 0 e) := by
  blk_ext [iblk, idx4 t]

/-- The factor the host multiplies the queries by. -/
def scale : EReal := Ideal.div 1 (Ideal.log (Ideal.ofBits .f32 0x40000000#32) * Ideal.ofBits .f32 0x41000000#32)

/-- The factor is one over eight times log 2. -/
theorem scale_eq : scale = ((1 / (Real.log 2 * 8) : ℝ) : EReal) := by
  have h2 : Ideal.ofBits .f32 0x40000000#32 = ((2 : ℝ) : EReal) := by simp [Ideal.ofBits, Ideal.ieee]; rw [← EReal.coe_mul]; norm_num
  have h8 : Ideal.ofBits .f32 0x41000000#32 = ((8 : ℝ) : EReal) := by simp [Ideal.ofBits, Ideal.ieee]; rw [← EReal.coe_mul]; norm_num
  have hl : Real.log 2 * 8 ≠ 0 := mul_ne_zero (Real.log_pos (by norm_num)).ne' (by norm_num)
  unfold scale
  rw [h2, h8, Ideal.log_coe, if_neg (by norm_num), ← EReal.coe_mul, Ideal.div_coe hl, one_mul]

/-- The queries as the call takes them. -/
theorem q_read (h : Fin 8) (s : Fin 2) (r : Fin 16384) (d : Fin 64) (a : Fin 16) (ha : a.val = 2 * h.val + s.val) :
    V m c main_v7 (ix3 a r d) = HMul.hMul (α := EReal) (m ((c : Thread nD τ).loc main_arg0) (ix4 r h s d)) scale := by
  obtain ⟨a, hlt⟩ := a
  obtain rfl : a = 2 * h.val + s.val := ha
  unfold V scale
  after_reads_at
  pointwise
  rw [show (⟨(2 * h.val + s.val) / 2, by omega⟩ : Fin 8) = h from Fin.ext (by show (2 * h.val + s.val) / 2 = h.val; omega),
    show (⟨(2 * h.val + s.val) % 2, by omega⟩ : Fin 2) = s from Fin.ext (by show (2 * h.val + s.val) % 2 = s.val; omega)]

/-- The keys. -/
theorem k_read (h : Fin 8) (s : Fin 2) (r : Fin 16384) (d : Fin 64) (a : Fin 16) (ha : a.val = 2 * h.val + s.val) :
    V m c main_v10 (ix3 a d r) = m ((c : Thread nD τ).loc main_arg1) (ix4 r h s d) := by
  obtain ⟨a, hlt⟩ := a
  obtain rfl : a = 2 * h.val + s.val := ha
  unfold V
  after_reads_at
  pointwise
  rw [show (⟨(2 * h.val + s.val) / 2, by omega⟩ : Fin 8) = h from Fin.ext (by show (2 * h.val + s.val) / 2 = h.val; omega),
    show (⟨(2 * h.val + s.val) % 2, by omega⟩ : Fin 2) = s from Fin.ext (by show (2 * h.val + s.val) % 2 = s.val; omega)]

/-- The values: a head's first 128 columns. -/
theorem v_read (h : Fin 8) (r : Fin 16384) (e : Fin 128) (a : Fin 2048) (ha : a.val = 256 * h.val + e.val) :
    V m c main_v17 (ix2 r a) = m ((c : Thread nD τ).loc main_arg2) (ix3 r h e) := by
  obtain ⟨a, hlt⟩ := a
  obtain rfl : a = 256 * h.val + e.val := ha
  unfold V
  after_reads_at
  pointwise
  rw [dif_pos (by omega)]
  after_reads_at
  pointwise
  rw [show (⟨(256 * h.val + e.val) % 256, by omega⟩ : Fin 128) = e from Fin.ext (by show (256 * h.val + e.val) % 256 = e.val; omega)]

/-- and the column of ones after them. -/
theorem one_read (h : Fin 8) (r : Fin 16384) (a : Fin 2048) (ha : a.val = 256 * h.val + 128) :
    V m c main_v17 (ix2 r a) = (1 : EReal) := by
  obtain ⟨a, hlt⟩ := a
  obtain rfl : a = 256 * h.val + 128 := ha
  unfold V
  after_reads_at
  pointwise
  rw [dif_neg (by omega)]
  after_reads_at
  pointwise
  rw [show (256 * h.val + 128) % 256 - 128 = 0 from by omega]
  show FloatOps.uitofp (F := Ideal) FTy.f32 (1#1) = (1 : EReal)
  simp [FloatOps.uitofp]

/-- The first lambda row. -/
theorem lam0 (d : Fin 64) : V m c main_v22 (ix2 0 d) = m ((c : Thread nD τ).loc main_arg3) (ix1 d) := by
  unfold V; after_reads_at; pointwise; after_reads_at
/-- The second lambda row. -/
theorem lam1 (d : Fin 64) : V m c main_v22 (ix2 1 d) = m ((c : Thread nD τ).loc main_arg4) (ix1 d) := by
  unfold V; after_reads_at; pointwise; after_reads_at
/-- The third lambda row. -/
theorem lam2 (d : Fin 64) : V m c main_v22 (ix2 2 d) = m ((c : Thread nD τ).loc main_arg5) (ix1 d) := by
  unfold V; after_reads_at; pointwise; after_reads_at
/-- The fourth lambda row. -/
theorem lam3 (d : Fin 64) : V m c main_v22 (ix2 3 d) = m ((c : Thread nD τ).loc main_arg6) (ix1 d) := by
  unfold V; after_reads_at; pointwise; after_reads_at
/-- The gain as the call takes it. -/
theorem sub_read (e : Fin 128) : V m c main_v23 (ix2 0 e) = m ((c : Thread nD τ).loc main_arg7) (ix1 e) := by
  unfold V; after_reads_at

end Cert.KernelIdeal.Blocks

end
-- ==== Proof.Run.lean ====
/-
  What the carried buffers hold after every grid point: the running maximum is a real, and the accumulator is the values
  seen so far weighted by powers of two of their scores against it. The last point of each run of eight writes the
  normalised difference of the two streams' softmax-weighted values.
-/
module

public import proofs.«01_k».proof.Proof.Gen.KernelIdeal.Value
public import proofs.«01_k».proof.Proof.Case
public import proofs.«01_k».proof.Proof.Blocks

@[expose] public section

set_option maxRecDepth 16384

noncomputable section

namespace Cert.KernelIdeal.Run

open Cert.KernelIdeal Cert.KernelIdeal.Gen Cert.KernelIdeal.Step Cert.KernelIdeal.Case Cert.KernelIdeal.Blocks Cert.Softmax
open Idealize.ShloMosaic Idealize.ShloMosaic.TcCoe Idealize.SL.Sem

/-- One point over what the point before left: the maximum stays a real and the accumulator takes the block in. -/
theorem newPoint (x0 : Vec Ideal S2x1024x64 .bf16) (x1 : Vec Ideal S2x64x2048 .bf16) (x2 : Vec Ideal S2048x256 .bf16) (mo : Fin 128 → EReal) (ac : Fin 256 → EReal)
    (s : Fin 2) (r : Fin 1024) (f : ℕ → ℝ) (w : Fin 256 → ℕ → EReal) (n : ℕ) (M : ℝ)
    (hsc : ∀ j : Fin 2048, sc x0 x1 s r j = (f (n + j.val) : EReal)) (hx : ∀ (j : Fin 2048) e, x2 (ix2 j e) = w e (n + j.val))
    (hmo : ∀ l, mo l = (M : EReal)) (hac : ∀ e, ac e = accum f (w e) n M) :
    ∃ M' : ℝ, (∀ l, newMax x0 x1 mo s r l = (M' : EReal)) ∧ ∀ e, newAcc x0 x1 x2 mo ac s r e = accum f (w e) (n + 2048) M' := by
  have hs : sc x0 x1 s r = fun j => ((f (n + j.val) : ℝ) : EReal) := funext hsc
  obtain ⟨M', hM'⟩ := max_top_coe (n := 2048) (by norm_num) M (fun j => f (n + j.val))
  have hmax : ∀ l, newMax x0 x1 mo s r l = (M' : EReal) := fun l => by unfold newMax; rw [hmo, hs, hM']
  refine ⟨M', hmax, fun e => ?_⟩
  unfold newAcc
  simp only [hmax, hmo, hac, hsc, hx]
  exact accum_step f (w e) n 2048 M M'

variable (m : (ℓ : Loc nD τ sig) → Buf (Elt Ideal) ℓ) (c : Dev nD)
variable (q k : Fin 16384 → Fin 8 → Fin 2 → Fin 64 → ℝ)

/-- The base-two score of a query row against a key row, in one stream of one head. -/
def two (h : Fin 8) (s : Fin 2) (r j : Fin 16384) : ℝ := (∑ d : Fin 64, q r h s d * k j h s d) * (1 / (Real.log 2 * 8))

/-- A column of a head's packed values. -/
def col (h : Fin 8) (e : Fin 256) (j : Fin 16384) : EReal := V m c main_v17 (ix2 j ⟨256 * h.val + e.val, by omega⟩)

/-- The head and the query row of a point. -/
def hd (t : Fin cfg0.N) : Fin 8 := ⟨t.val / 128, by have := lt_N t; omega⟩
def row (t : Fin cfg0.N) (r : Fin 1024) : Fin 16384 := ⟨1024 * (t.val / 8 % 16) + r.val, by omega⟩

variable (hq : ∀ r h s d, m ((c : Thread nD τ).loc main_arg0) (ix4 r h s d) = (q r h s d : EReal))
  (hk : ∀ r h s d, m ((c : Thread nD τ).loc main_arg1) (ix4 r h s d) = (k r h s d : EReal))

include hq hk in
/-- A point's block of scores. -/
theorem score_blk (t : Fin cfg0.N) (s : Fin 2) (r : Fin 1024) (j : Fin 2048) :
    sc (iblk m c 0 t) (iblk m c 1 t) s r j = ((wrap (by norm_num) (two q k (hd t) s (row t r)) (2048 * (t.val % 8) + j.val) : ℝ) : EReal) := by
  have e : ∀ d : Fin 64, HMul.hMul (α := EReal) (iblk m c 0 t (ix3 s r d)) (iblk m c 1 t (ix3 s d j))
      = ((q (row t r) (hd t) s d * k ⟨2048 * (t.val % 8) + j.val, by omega⟩ (hd t) s d * (1 / (Real.log 2 * 8)) : ℝ) : EReal) := fun d => by
    rw [q_blk, k_blk, q_read m c (hd t) s _ d _ rfl, k_read m c (hd t) s _ d _ rfl, scale_eq, hq, hk, ← EReal.coe_mul, ← EReal.coe_mul]
    congr 1
    show q (row t r) (hd t) s d * _ * _ = _
    ring
  unfold sc
  rw [Finset.sum_congr rfl fun d _ => e d, ← coe_sum, ← Finset.sum_mul]
  have hj : (⟨(2048 * (t.val % 8) + j.val) % 16384, Nat.mod_lt _ (by norm_num)⟩ : Fin 16384) = ⟨2048 * (t.val % 8) + j.val, by omega⟩ :=
    Fin.ext (Nat.mod_eq_of_lt (by omega))
  unfold wrap two
  rw [hj]

/-- A point's block of packed values. -/
theorem val_blk (t : Fin cfg0.N) (j : Fin 2048) (e : Fin 256) :
    iblk m c 2 t (ix2 j e) = wrap (by norm_num) (col m c (hd t) e) (2048 * (t.val % 8) + j.val) := by
  have hj : (⟨(2048 * (t.val % 8) + j.val) % 16384, Nat.mod_lt _ (by norm_num)⟩ : Fin 16384) = ⟨2048 * (t.val % 8) + j.val, by omega⟩ :=
    Fin.ext (Nat.mod_eq_of_lt (by omega))
  rw [v_blk]
  unfold wrap col
  rw [hj]
  rfl

/-- The starting maximum is a real. -/
theorem start_coe : ∃ M : ℝ, Ideal.ofBits .f32 0xEFA18F08#32 = (M : EReal) := by
  simp only [Ideal.ofBits, Ideal.ieee]
  simp
  exact ⟨-(10587912 * 2 ^ 73), by push_cast; rfl⟩

/-- The first point of a run starts over. -/
theorem first_max (t : Fin cfg0.N) (h0 : t.val % 8 = 0) (s : Fin 2) (r : Fin 1024) (l : Fin 128) :
    (outsAt0 m c t.val t.isLt).2.1 (ix3 s r l) = newMax (iblk m c 0 t) (iblk m c 1 t) (fun _ => Ideal.ofBits .f32 0xEFA18F08#32) s r l := by
  have h1 : ¬t.val % 8 = 7 := by omega
  rw [← max_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h)) s r l, outsAt0_A m c t h0 h1]

/-- The accumulator after the first block of keys. -/
theorem first_acc (t : Fin cfg0.N) (h0 : t.val % 8 = 0) (s : Fin 2) (r : Fin 1024) (e : Fin 256) :
    (outsAt0 m c t.val t.isLt).2.2 (ix3 s r e)
      = newAcc (iblk m c 0 t) (iblk m c 1 t) (iblk m c 2 t) (fun _ => Ideal.ofBits .f32 0xEFA18F08#32) (fun _ => 0) s r e := by
  have h1 : ¬t.val % 8 = 7 := by omega
  rw [← acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h)) s r e, outsAt0_A m c t h0 h1]

/-- Every later point goes on from what the point before left. -/
theorem next_max (t : Fin cfg0.N) (h0 : ¬t.val % 8 = 0) (s : Fin 2) (r : Fin 1024) (l : Fin 128) :
    (outsAt0 m c t.val t.isLt).2.1 (ix3 s r l)
      = newMax (iblk m c 0 t) (iblk m c 1 t) (fun l => (outsAt0 m c (t.val - 1) (by omega)).2.1 (ix3 s r l)) s r l := by
  by_cases h1 : t.val % 8 = 7
  · rw [← max_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1) s r l, outsAt0_C m c t h0 h1]
  · rw [← max_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)) s r l, outsAt0_B m c t h0 h1]

/-- The accumulator after a further block of keys. -/
theorem next_acc (t : Fin cfg0.N) (h0 : ¬t.val % 8 = 0) (s : Fin 2) (r : Fin 1024) (e : Fin 256) :
    (outsAt0 m c t.val t.isLt).2.2 (ix3 s r e)
      = newAcc (iblk m c 0 t) (iblk m c 1 t) (iblk m c 2 t) (fun l => (outsAt0 m c (t.val - 1) (by omega)).2.1 (ix3 s r l))
          (fun e => (outsAt0 m c (t.val - 1) (by omega)).2.2 (ix3 s r e)) s r e := by
  by_cases h1 : t.val % 8 = 7
  · rw [← acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1) s r e, outsAt0_C m c t h0 h1]
  · rw [← acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)) s r e, outsAt0_B m c t h0 h1]

/-- What a point leaves, in one stream's row: a real maximum, and the accumulator over the keys so far. -/
def Inv (t : Fin cfg0.N) : Prop :=
  ∀ (s : Fin 2) (r : Fin 1024), ∃ M : ℝ, (∀ l, (outsAt0 m c t.val t.isLt).2.1 (ix3 s r l) = (M : EReal))
    ∧ ∀ e, (outsAt0 m c t.val t.isLt).2.2 (ix3 s r e)
        = accum (wrap (by norm_num) (two q k (hd t) s (row t r))) (wrap (by norm_num) (col m c (hd t) e)) (2048 * (t.val % 8) + 2048) M

include hq hk in
theorem inv_first (t : Fin cfg0.N) (h0 : t.val % 8 = 0) : Inv m c q k t := by
  intro s r
  obtain ⟨M, hM⟩ := start_coe
  obtain ⟨M', h1, h2⟩ := newPoint (iblk m c 0 t) (iblk m c 1 t) (iblk m c 2 t) (fun _ => Ideal.ofBits .f32 0xEFA18F08#32) (fun _ => 0) s r
    (wrap (by norm_num) (two q k (hd t) s (row t r))) (fun e => wrap (by norm_num) (col m c (hd t) e)) (2048 * (t.val % 8)) M
    (score_blk m c q k hq hk t s r) (val_blk m c t) (fun _ => hM) (fun e => by rw [h0]; exact (accum_zero _ _ _).symm)
  exact ⟨M', fun l => (first_max m c t h0 s r l).trans (h1 l), fun e => (first_acc m c t h0 s r e).trans (h2 e)⟩

/-- What the point before left is what a later point's step takes. -/
theorem before (t : Fin cfg0.N) (h0 : ¬t.val % 8 = 0) (s : Fin 2) (r : Fin 1024) (ih : Inv m c q k ⟨t.val - 1, by omega⟩) :
    ∃ M : ℝ, (∀ l, (outsAt0 m c (t.val - 1) (by omega)).2.1 (ix3 s r l) = (M : EReal))
      ∧ ∀ e, (outsAt0 m c (t.val - 1) (by omega)).2.2 (ix3 s r e)
        = accum (wrap (by norm_num) (two q k (hd t) s (row t r))) (wrap (by norm_num) (col m c (hd t) e)) (2048 * (t.val % 8)) M := by
  obtain ⟨M, hm, ha⟩ := ih s r
  have hh : hd ⟨t.val - 1, by omega⟩ = hd t := Fin.ext (by show (t.val - 1) / 128 = t.val / 128; omega)
  have hr : row ⟨t.val - 1, by omega⟩ r = row t r :=
    Fin.ext (by show 1024 * ((t.val - 1) / 8 % 16) + r.val = 1024 * (t.val / 8 % 16) + r.val; omega)
  have hk8 : 2048 * ((t.val - 1) % 8) + 2048 = 2048 * (t.val % 8) := by omega
  refine ⟨M, hm, fun e => (ha e).trans ?_⟩
  show accum (wrap _ (two q k (hd ⟨t.val - 1, _⟩) s (row ⟨t.val - 1, _⟩ r))) (wrap _ (col m c (hd ⟨t.val - 1, _⟩) e)) (2048 * ((t.val - 1) % 8) + 2048) M = _
  rw [hh, hr, hk8]

include hq hk in
theorem inv_next (t : Fin cfg0.N) (h0 : ¬t.val % 8 = 0) (ih : Inv m c q k ⟨t.val - 1, by omega⟩) : Inv m c q k t := by
  intro s r
  obtain ⟨M, hm, ha⟩ := before m c q k t h0 s r ih
  obtain ⟨M', h1, h2⟩ := newPoint (iblk m c 0 t) (iblk m c 1 t) (iblk m c 2 t)
    (fun l => (outsAt0 m c (t.val - 1) (by omega)).2.1 (ix3 s r l)) (fun e => (outsAt0 m c (t.val - 1) (by omega)).2.2 (ix3 s r e)) s r
    (wrap (by norm_num) (two q k (hd t) s (row t r))) (fun e => wrap (by norm_num) (col m c (hd t) e)) (2048 * (t.val % 8)) M
    (score_blk m c q k hq hk t s r) (val_blk m c t) hm ha
  exact ⟨M', fun l => (next_max m c t h0 s r l).trans (h1 l), fun e => (next_acc m c t h0 s r e).trans (h2 e)⟩

include hq hk in
/-- Every point leaves a real maximum and the accumulator over the keys so far. -/
theorem inv_all : ∀ n (hn : n < cfg0.N), Inv m c q k ⟨n, hn⟩ := by
  intro n
  induction n with
  | zero => exact fun hn => inv_first m c q k hq hk ⟨0, hn⟩ rfl
  | succ n ih =>
    intro hn
    by_cases h0 : (n + 1) % 8 = 0
    · exact inv_first m c q k hq hk ⟨n + 1, hn⟩ h0
    · exact inv_next m c q k hq hk ⟨n + 1, hn⟩ h0 (ih (Nat.lt_of_succ_lt hn))

variable (v : Fin 16384 → Fin 8 → Fin 128 → ℝ)
  (hv : ∀ r h e, m ((c : Thread nD τ).loc main_arg2) (ix3 r h e) = (v r h e : EReal))

/-- One stream's attended value: the softmax weights of the scores against the values. -/
def att (h : Fin 8) (s : Fin 2) (r : Fin 16384) (e : Fin 128) : ℝ :=
  ∑ j : Fin 16384, wt (fun j => (∑ d : Fin 64, q r h s d * k j h s d) * (1 / 8)) j * v j h e

/-- The kernel's scores times log 2 are the reference's scores. -/
theorem two_log (h : Fin 8) (s : Fin 2) (r : Fin 16384) :
    (fun j => two q k h s r j * Real.log 2) = fun j => (∑ d : Fin 64, q r h s d * k j h s d) * (1 / 8) := by
  have hl : Real.log 2 ≠ 0 := (Real.log_pos (by norm_num)).ne'
  funext j
  unfold two
  field_simp

include hq hk hv in
/-- The last point's quotient in one stream. -/
theorem last_quot (t : Fin cfg0.N) (h7 : t.val % 8 = 7) (s : Fin 2) (r : Fin 1024) (e : Fin 128) :
    Ideal.div
      (newAcc (iblk m c 0 t) (iblk m c 1 t) (iblk m c 2 t) (fun l => (outsAt0 m c (t.val - 1) (by omega)).2.1 (ix3 s r l))
        (fun e => (outsAt0 m c (t.val - 1) (by omega)).2.2 (ix3 s r e)) s r ⟨e.val, by omega⟩)
      (newAcc (iblk m c 0 t) (iblk m c 1 t) (iblk m c 2 t) (fun l => (outsAt0 m c (t.val - 1) (by omega)).2.1 (ix3 s r l))
        (fun e => (outsAt0 m c (t.val - 1) (by omega)).2.2 (ix3 s r e)) s r 128) = (att q k v (hd t) s (row t r) e : EReal) := by
  have h0 : ¬t.val % 8 = 0 := by omega
  obtain ⟨M, hm, ha⟩ := before m c q k t h0 s r (inv_all m c q k hq hk _ _)
  obtain ⟨M', h1, h2⟩ := newPoint (iblk m c 0 t) (iblk m c 1 t) (iblk m c 2 t)
    (fun l => (outsAt0 m c (t.val - 1) (by omega)).2.1 (ix3 s r l)) (fun e => (outsAt0 m c (t.val - 1) (by omega)).2.2 (ix3 s r e)) s r
    (wrap (by norm_num) (two q k (hd t) s (row t r))) (fun e => wrap (by norm_num) (col m c (hd t) e)) (2048 * (t.val % 8)) M
    (score_blk m c q k hq hk t s r) (val_blk m c t) hm ha
  have hval : col m c (hd t) ⟨e.val, by omega⟩ = fun j => (v j (hd t) e : EReal) := by
    funext j
    unfold col
    rw [v_read m c (hd t) j e _ rfl, hv]
  have hone : col m c (hd t) 128 = fun _ => (1 : EReal) := by
    funext j
    unfold col
    exact one_read m c (hd t) j _ rfl
  have hn : 2048 * (t.val % 8) + 2048 = 16384 := by omega
  rw [h2, h2, hval, hone, hn, quot_all, two_log]
  unfold att
  rw [coe_sum]
  exact Finset.sum_congr rfl fun j _ => (EReal.coe_mul _ _).symm

end Cert.KernelIdeal.Run

end
-- ==== Proof.Reference.lean ====
/-
  The reference read at an index: the softmax weights of the two streams, their difference against the values, and the row
  normalised by its root mean square.
-/
module

public import proofs.«01_k».proof.Proof.Gen.ReferenceIdeal.Run
public import proofs.«01_k».proof.Proof.Softmax
public import Idealize.ShloMosaic.Lib.Pointwise
public import Idealize.ShloMosaic.PureOps.Reduce

@[expose] public section

set_option maxRecDepth 16384

noncomputable section

namespace Cert.ReferenceIdeal.Read

open Cert.ReferenceIdeal Cert.ReferenceIdeal.Gen Cert.ReferenceIdeal.Value Cert.Softmax
open Idealize.ShloMosaic Idealize.ShloMosaic.TcCoe Idealize.SL.Sem

/-- The scaled scores. -/
def scores (a0 a1 : FVec Ideal S16384x8x2x64 .f32) : FVec Ideal S8x2x16384x16384 .f32 :=
  mulf (Host.dotGeneral dot_S16384x8x2x64_S16384x8x2x64_S8x2x16384x16384_3_3_0_0_12_12 none a0 a1)
    (broadcastInDim S8x2x16384x16384 ![] bcast_S_S8x2x16384x16384 (constant S_ .f32 0x3E000000#32))

/-- A row's greatest score. -/
def rowMax (s : FVec Ideal S8x2x16384x16384 .f32) : FVec Ideal S8x2x16384 .f32 :=
  Host.reduce FloatOps.maximumf s (constant S_ .f32 0xFF800000#32) reducesTo_S8x2x16384x16384_S8x2x16384_d3 h_S_

/-- The scores' exponentials against the rows' maxima. -/
def exps (s : FVec Ideal S8x2x16384x16384 .f32) (m : FVec Ideal S8x2x16384 .f32) : FVec Ideal S8x2x16384x16384 .f32 :=
  Host.exp (subf s (broadcastInDim S8x2x16384x16384 ![0, 1, 2, 3] bcast_S8x2x16384x1_S8x2x16384x16384_0_1_2_3
    (broadcastInDim S8x2x16384x1 ![0, 1, 2] bcast_S8x2x16384_S8x2x16384x1_0_1_2
      (maximumf (broadcastInDim S8x2x16384 ![] bcast_S_S8x2x16384 (constant S_ .f32 0xFF800000#32))
        m))))

/-- The softmax weights. -/
def weights (x : FVec Ideal S8x2x16384x16384 .f32) : FVec Ideal S8x2x16384x16384 .f32 :=
  Host.divf x (broadcastInDim S8x2x16384x16384 ![0, 1, 2, 3] bcast_S8x2x16384x1_S8x2x16384x16384_0_1_2_3
    (broadcastInDim S8x2x16384x1 ![0, 1, 2] bcast_S8x2x16384_S8x2x16384x1_0_1_2
      (Host.reduceAdd x (constant S_ .f32 0x00000000#32) reducesTo_S8x2x16384x16384_S8x2x16384_d3 h_S_)))

/-- The mixing weight of the second stream. -/
def lam (a3 a4 a5 a6 : FVec Ideal S64 .f32) : FVec Ideal S_ .f32 :=
  addf (subf (Host.exp (Host.reduceAdd (mulf a3 a4) (constant S_ .f32 0x00000000#32) reducesTo_S64_S_d0 h_S_))
    (Host.exp (Host.reduceAdd (mulf a5 a6) (constant S_ .f32 0x00000000#32) reducesTo_S64_S_d0 h_S_))) (constant S_ .f32 0x3E4CCCCD#32)

/-- The difference of the two streams' weights against the values. -/
def mixed (a2 : FVec Ideal S16384x8x128 .f32) (w : FVec Ideal S8x2x16384x16384 .f32) (l : FVec Ideal S_ .f32) : FVec Ideal S16384x8x128 .f32 :=
  transpose S16384x8x128 [2, 0, 1] (Host.dotGeneral dot_S16384x8x128_S8x16384x16384_S8x128x16384_0_2_2_1_1_0 none a2
    (subf (shapeCast _ (extractStridedSlice S8x1x16384x16384 ![0, 0, 0, 0] w slices_S8x2x16384x16384_S8x1x16384x16384_0_0_0_0) shapeCasts_S8x1x16384x16384_S8x16384x16384)
      (mulf (broadcastInDim S8x16384x16384 ![] bcast_S_S8x16384x16384 l)
        (shapeCast _ (extractStridedSlice S8x1x16384x16384 ![0, 1, 0, 0] w slices_S8x2x16384x16384_S8x1x16384x16384_0_1_0_0) shapeCasts_S8x1x16384x16384_S8x16384x16384))))
    transposes_S8x128x16384_S16384x8x128_2_0_1

/-- The rows normalised. -/
def final (o : FVec Ideal S16384x8x128 .f32) (a7 : FVec Ideal S128 .f32) : FVec Ideal S16384x1024 .bf16 :=
  truncf .bf16 (shapeCast _ (mulf (mulf (mulf o (broadcastInDim S16384x8x128 ![0, 1, 2] bcast_S16384x8x1_S16384x8x128_0_1_2
    (Host.rsqrt (addf (Host.divf (broadcastInDim S16384x8x1 ![0, 1] bcast_S16384x8_S16384x8x1_0_1
        (Host.reduceAdd (mulf o o) (constant S_ .f32 0x00000000#32) reducesTo_S16384x8x128_S16384x8_d2 h_S_))
      (broadcastInDim S16384x8x1 ![] bcast_S_S16384x8x1 (constant S_ .f32 0x43000000#32)))
      (broadcastInDim S16384x8x1 ![] bcast_S_S16384x8x1 (constant S_ .f32 0x358637BD#32))))))
    (broadcastInDim S16384x8x128 ![0, 1, 2] bcast_S1x1x128_S16384x8x128_0_1_2 (broadcastInDim S1x1x128 ![2] bcast_S128_S1x1x128_2 a7)))
    (broadcastInDim S16384x8x128 ![] bcast_S_S16384x8x128 (constant S_ .f32 0x3F4CCCCD#32))) shapeCasts_S16384x8x128_S16384x1024) bitsLt_bf16_f32

/-- The reference's result is these steps one after the other. -/
theorem out_eq (m : (ℓ : Loc nD τ sig) → Buf (Elt Ideal) ℓ) (c : Dev nD) :
    res_out0 m c = final (mixed (m ((c.tc : Thread nD τ).loc main_arg2))
      (weights (exps (scores (m ((c.tc : Thread nD τ).loc main_arg0)) (m ((c.tc : Thread nD τ).loc main_arg1)))
        (rowMax (scores (m ((c.tc : Thread nD τ).loc main_arg0)) (m ((c.tc : Thread nD τ).loc main_arg1))))))
      (lam (m ((c.tc : Thread nD τ).loc main_arg3)) (m ((c.tc : Thread nD τ).loc main_arg4)) (m ((c.tc : Thread nD τ).loc main_arg5)) (m ((c.tc : Thread nD τ).loc main_arg6))))
      (m ((c.tc : Thread nD τ).loc main_arg7)) := rfl

/-- The scores at an index. -/
theorem scores_apply (a0 a1 : FVec Ideal S16384x8x2x64 .f32) (q k : Fin 16384 → Fin 8 → Fin 2 → Fin 64 → ℝ)
    (hq : ∀ r h s d, a0 (ix4 r h s d) = (q r h s d : EReal)) (hk : ∀ r h s d, a1 (ix4 r h s d) = (k r h s d : EReal))
    (h : Fin 8) (s : Fin 2) (r j : Fin 16384) :
    scores a0 a1 (ix4 h s r j) = (((∑ d : Fin 64, q r h s d * k j h s d) * (1 / 8) : ℝ) : EReal) := by
  have h8 : Ideal.ofBits .f32 0x3E000000#32 = ((1 / 8 : ℝ) : EReal) := by simp [Ideal.ofBits, Ideal.ieee]; rw [← EReal.coe_mul]; norm_num
  unfold scores
  pointwise
  rw [h8, Finset.sum_congr rfl fun d _ => (by rw [hq, hk, ← EReal.coe_mul] : HMul.hMul (α := EReal) (a0 (ix4 r h s d)) (a1 (ix4 j h s d)) = ((q r h s d * k j h s d : ℝ) : EReal)),
    ← coe_sum, ← EReal.coe_mul]

/-- A maximum over the last of four axes, from minus infinity. -/
theorem max_last {n0 n1 n2 n3 : Nat} (s : FVec Ideal ⟨4, ![n0, n1, n2, n3]⟩ .f32) (hr : (⟨4, ![n0, n1, n2, n3]⟩ : Shape).ReducesTo [3] ⟨3, ![n0, n1, n2]⟩)
    {u : Shape} (v : FVec Ideal u .f32) (hu : 0 < u.numel) (hv : v (Shape.Idx.first hu) = (⊥ : EReal)) (a : Fin n0) (b : Fin n1) (c : Fin n2) :
    Host.reduce FloatOps.maximumf s v hr hu (ix3 a b c) = top fun x => s (ix4 a b c x) := by
  rw [Host.reduce_eq_fold, Shape.ReducesTo.fold_fiber_r4_a3, hv]
  rfl

/-- The word of minus infinity. -/
theorem neg_inf : Ideal.ofBits .f32 0xFF800000#32 = ⊥ := by simp [Ideal.ofBits, Ideal.ieee]

/-- A row's maximum. -/
theorem rowMax_apply (x : FVec Ideal S8x2x16384x16384 .f32) (h : Fin 8) (s : Fin 2) (r : Fin 16384) :
    rowMax x (ix3 h s r) = top fun i => x (ix4 h s r i) :=
  max_last x _ _ _ neg_inf h s r

/-- The exponentials at an index. -/
theorem exps_apply (x : FVec Ideal S8x2x16384x16384 .f32) (m : FVec Ideal S8x2x16384 .f32) (h : Fin 8) (s : Fin 2) (r j : Fin 16384) :
    exps x m (ix4 h s r j) = Ideal.exp (x (ix4 h s r j) - max (Ideal.ofBits .f32 0xFF800000#32) (m (ix3 h s r))) := by
  unfold exps
  pointwise

/-- The weights at an index. -/
theorem weights_apply (x : FVec Ideal S8x2x16384x16384 .f32) (h : Fin 8) (s : Fin 2) (r j : Fin 16384) :
    weights x (ix4 h s r j) = Ideal.div (x (ix4 h s r j)) (∑ i, x (ix4 h s r i)) := by
  unfold weights
  pointwise

/-- The lambda. -/
theorem lam_apply (a3 a4 a5 a6 : FVec Ideal S64 .f32) (i : S_.Idx) :
    lam a3 a4 a5 a6 i = Ideal.exp (∑ d : Fin 64, a3 (ix1 d) * a4 (ix1 d)) - Ideal.exp (∑ d : Fin 64, a5 (ix1 d) * a6 (ix1 d)) + Ideal.ofBits .f32 0x3E4CCCCD#32 := by
  unfold lam
  pointwise

/-- The mixed weights applied to the values, at an index. -/
theorem mixed_apply (a2 : FVec Ideal S16384x8x128 .f32) (w : FVec Ideal S8x2x16384x16384 .f32) (l : FVec Ideal S_ .f32) (i : S_.Idx) (r : Fin 16384) (h : Fin 8) (e : Fin 128) :
    mixed a2 w l (ix3 r h e) = ∑ j : Fin 16384, a2 (ix3 j h e) * (w (ix4 h 0 r j) - l i * w (ix4 h 1 r j)) := by
  unfold mixed
  pointwise
  rw [show i = ix0 from funext fun d => d.elim0]

/-- The normalised result at an index. -/
theorem final_apply (o : FVec Ideal S16384x8x128 .f32) (a7 : FVec Ideal S128 .f32) (r : Fin 16384) (a : Fin 1024) (h : Fin 8) (e : Fin 128) (ha : a.val = 128 * h.val + e.val) :
    final o a7 (ix2 r a) = o (ix3 r h e) * Ideal.rsqrt (Ideal.div (∑ x : Fin 128, o (ix3 r h x) * o (ix3 r h x)) (Ideal.ofBits .f32 0x43000000#32) + Ideal.ofBits .f32 0x358637BD#32)
      * a7 (ix1 e) * Ideal.ofBits .f32 0x3F4CCCCD#32 := by
  obtain ⟨a, hlt⟩ := a
  obtain rfl : a = 128 * h.val + e.val := ha
  unfold final
  pointwise

end Cert.ReferenceIdeal.Read

end
-- ==== Proof.Out.lean ====
/-
  The kernel's result and the reference's, element by element: the same normalised row of the difference of the two streams'
  softmax-weighted values.
-/
module

public import proofs.«01_k».proof.Proof.Run
public import proofs.«01_k».proof.Proof.Reference

@[expose] public section

set_option maxRecDepth 16384

noncomputable section

namespace Cert.KernelIdeal.Out

open Cert.KernelIdeal Cert.KernelIdeal.Gen Cert.KernelIdeal.Value Cert.KernelIdeal.Step Cert.KernelIdeal.Case Cert.KernelIdeal.Blocks Cert.KernelIdeal.Run Cert.Softmax
open Idealize.ShloMosaic Idealize.ShloMosaic.TcCoe Idealize.SL.Sem

variable (m : (ℓ : Loc nD τ sig) → Buf (Elt Ideal) ℓ) (c : Dev nD)

/-- The mixing weight of the second stream, of the four vectors. -/
def mixOf (a b d e : S64.Idx → EReal) : EReal :=
  Ideal.exp (∑ x : Fin 64, a (ix1 x) * b (ix1 x)) - Ideal.exp (∑ x : Fin 64, d (ix1 x) * e (ix1 x)) + Ideal.ofBits .f32 0x3E4CCCCD#32

/-- It is a real where the vectors are. -/
theorem mixOf_coe (a b d e : S64.Idx → EReal) (ha : ∀ i, ∃ x : ℝ, a i = x) (hb : ∀ i, ∃ x : ℝ, b i = x) (hd : ∀ i, ∃ x : ℝ, d i = x)
    (he : ∀ i, ∃ x : ℝ, e i = x) : ∃ l : ℝ, mixOf a b d e = (l : EReal) := by
  have hs : ∀ u w : S64.Idx → EReal, (∀ i, ∃ x : ℝ, u i = x) → (∀ i, ∃ x : ℝ, w i = x) → ∃ y : ℝ, Ideal.exp (∑ x : Fin 64, u (ix1 x) * w (ix1 x)) = (y : EReal) := by
    intro u w hu hw
    choose u' hu using hu
    choose w' hw using hw
    refine ⟨Real.exp (∑ x : Fin 64, u' (ix1 x) * w' (ix1 x)), ?_⟩
    rw [Finset.sum_congr rfl fun x _ => (by rw [hu, hw, ← EReal.coe_mul] : u (ix1 x) * w (ix1 x) = ((u' (ix1 x) * w' (ix1 x) : ℝ) : EReal)), ← coe_sum, Ideal.exp_coe]
  have hc : ∃ y : ℝ, Ideal.ofBits .f32 0x3E4CCCCD#32 = (y : EReal) := by
    simp only [Ideal.ofBits, Ideal.ieee]
    simp
    exact ⟨_, (EReal.coe_mul _ _).symm⟩
  obtain ⟨y, hy⟩ := hs a b ha hb
  obtain ⟨z, hz⟩ := hs d e hd he
  obtain ⟨w, hw⟩ := hc
  refine ⟨y - z + w, ?_⟩
  unfold mixOf
  rw [hy, hz, hw, ← EReal.coe_sub, ← EReal.coe_add]

/-- The mixing factor computed from the block of lambda rows is that of the arguments. -/
theorem mix_read (t : Fin cfg0.N) :
    mix (iblk m c 3 t) = mixOf (m ((c : Thread nD τ).loc main_arg3)) (m ((c : Thread nD τ).loc main_arg4)) (m ((c : Thread nD τ).loc main_arg5)) (m ((c : Thread nD τ).loc main_arg6)) := by
  have e0 : ∀ d : Fin 64, iblk m c 3 t (ix2 0 d) = m ((c : Thread nD τ).loc main_arg3) (ix1 d) := fun d => (lam_blk m c t 0 d).trans (lam0 m c d)
  have e1 : ∀ d : Fin 64, iblk m c 3 t (ix2 1 d) = m ((c : Thread nD τ).loc main_arg4) (ix1 d) := fun d => (lam_blk m c t 1 d).trans (lam1 m c d)
  have e2 : ∀ d : Fin 64, iblk m c 3 t (ix2 2 d) = m ((c : Thread nD τ).loc main_arg5) (ix1 d) := fun d => (lam_blk m c t 2 d).trans (lam2 m c d)
  have e3 : ∀ d : Fin 64, iblk m c 3 t (ix2 3 d) = m ((c : Thread nD τ).loc main_arg6) (ix1 d) := fun d => (lam_blk m c t 3 d).trans (lam3 m c d)
  unfold mix mixOf
  simp only [e0, e1, e2, e3]

/-- The last point of a run, as the row it normalises. -/
theorem last_out (t : Fin cfg0.N) (h7 : t.val % 8 = 7) (r : Fin 1024) (e : Fin 128) :
    (outsAt0 m c t.val t.isLt).1 (ix2 r e)
      = normed (fun x => Ideal.div (newAcc (iblk m c 0 t) (iblk m c 1 t) (iblk m c 2 t) (fun l => (outsAt0 m c (t.val - 1) (by omega)).2.1 (ix3 0 r l))
            (fun e => (outsAt0 m c (t.val - 1) (by omega)).2.2 (ix3 0 r e)) 0 r ⟨x.val, by omega⟩)
          (newAcc (iblk m c 0 t) (iblk m c 1 t) (iblk m c 2 t) (fun l => (outsAt0 m c (t.val - 1) (by omega)).2.1 (ix3 0 r l))
            (fun e => (outsAt0 m c (t.val - 1) (by omega)).2.2 (ix3 0 r e)) 0 r 128)
        - mix (iblk m c 3 t) * Ideal.div (newAcc (iblk m c 0 t) (iblk m c 1 t) (iblk m c 2 t) (fun l => (outsAt0 m c (t.val - 1) (by omega)).2.1 (ix3 1 r l))
            (fun e => (outsAt0 m c (t.val - 1) (by omega)).2.2 (ix3 1 r e)) 1 r ⟨x.val, by omega⟩)
          (newAcc (iblk m c 0 t) (iblk m c 1 t) (iblk m c 2 t) (fun l => (outsAt0 m c (t.val - 1) (by omega)).2.1 (ix3 1 r l))
            (fun e => (outsAt0 m c (t.val - 1) (by omega)).2.2 (ix3 1 r e)) 1 r 128)) (fun x => iblk m c 4 t (ix2 0 x)) e := by
  have h0 : ¬t.val % 8 = 0 := by omega
  rw [← out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h7) r e,
    outsAt0_C m c t h0 h7]

/-- Where an element of the result is written. -/
theorem G5_at (h : Fin 8) (R : Fin 16384) (e : Fin 128) (a : Fin 1024) (ha : a.val = 128 * h.val + e.val) (t : Fin cfg0.N)
    (ht : t.val = 8 * (R.val / 1024 + 16 * h.val) + 7) :
    G5 m c (ix2 R a) = (outsAt0 m c t.val t.isLt).1 (ix2 ⟨R.val % 1024, Nat.mod_lt _ (by norm_num)⟩ e) := by
  have hp : pt5Of (ix2 R a) = t.val := by
    show 8 * (1 * (R.val / 1024 - 0) + 16 * (a.val / 128 - 0)) + 7 = t.val
    omega
  have hl : loc5Of (ix2 R a) = ix2 ⟨R.val % 1024, Nat.mod_lt _ (by norm_num)⟩ e := by
    funext d
    apply Fin.ext
    match d with
    | ⟨0, _⟩ => rfl
    | ⟨1, _⟩ => show a.val % 128 = e.val; omega
  unfold G5
  rw [dif_pos (by rw [hp]; exact t.isLt), hl, fold0_congr m c _ _ _ _ hp, outsAt0_sweep]

variable (q k : Fin 16384 → Fin 8 → Fin 2 → Fin 64 → ℝ) (v : Fin 16384 → Fin 8 → Fin 128 → ℝ) (l : ℝ)
variable (hq : ∀ r h s d, m ((c : Thread nD τ).loc main_arg0) (ix4 r h s d) = (q r h s d : EReal))
  (hk : ∀ r h s d, m ((c : Thread nD τ).loc main_arg1) (ix4 r h s d) = (k r h s d : EReal))
  (hv : ∀ r h e, m ((c : Thread nD τ).loc main_arg2) (ix3 r h e) = (v r h e : EReal))
  (hl : mixOf (m ((c : Thread nD τ).loc main_arg3)) (m ((c : Thread nD τ).loc main_arg4)) (m ((c : Thread nD τ).loc main_arg5)) (m ((c : Thread nD τ).loc main_arg6)) = (l : EReal))

include hq hk hv hl in
/-- The kernel's result at an index. -/
theorem kernel_at (h : Fin 8) (R : Fin 16384) (e : Fin 128) (a : Fin 1024) (ha : a.val = 128 * h.val + e.val) :
    G5 m c (ix2 R a) = normed (fun x => ((att q k v h 0 R x - l * att q k v h 1 R x : ℝ) : EReal)) (fun x => m ((c : Thread nD τ).loc main_arg7) (ix1 x)) e := by
  have ht : 8 * (R.val / 1024 + 16 * h.val) + 7 < cfg0.N := by rw [show cfg0.N = 1024 from N_0]; omega
  rw [G5_at m c h R e a ha ⟨_, ht⟩ rfl, last_out m c ⟨_, ht⟩ (by show (8 * (R.val / 1024 + 16 * h.val) + 7) % 8 = 7; omega)]
  have hh : hd ⟨8 * (R.val / 1024 + 16 * h.val) + 7, ht⟩ = h := Fin.ext (by show (8 * (R.val / 1024 + 16 * h.val) + 7) / 128 = h.val; omega)
  have hr : row ⟨8 * (R.val / 1024 + 16 * h.val) + 7, ht⟩ ⟨R.val % 1024, Nat.mod_lt _ (by norm_num)⟩ = R :=
    Fin.ext (by show 1024 * ((8 * (R.val / 1024 + 16 * h.val) + 7) / 8 % 16) + R.val % 1024 = R.val; omega)
  have hs : (fun x : Fin 128 => iblk m c 4 ⟨8 * (R.val / 1024 + 16 * h.val) + 7, ht⟩ (ix2 0 x)) = fun x => m ((c : Thread nD τ).loc main_arg7) (ix1 x) := by
    funext x
    rw [sub_blk, sub_read]
  have h7 : (⟨8 * (R.val / 1024 + 16 * h.val) + 7, ht⟩ : Fin cfg0.N).val % 8 = 7 := by show (8 * (R.val / 1024 + 16 * h.val) + 7) % 8 = 7; omega
  rw [hs, mix_read, hl]
  congr 1
  funext x
  rw [last_quot m c q k hq hk v hv _ h7 0, last_quot m c q k hq hk v hv _ h7 1, hh, hr, EReal.coe_sub, EReal.coe_mul]

end Cert.KernelIdeal.Out

namespace Cert.ReferenceIdeal.Read

open Cert.ReferenceIdeal Cert.ReferenceIdeal.Gen Cert.ReferenceIdeal.Value Cert.Softmax
open Idealize.ShloMosaic Idealize.ShloMosaic.TcCoe Idealize.SL.Sem

/-- The weights of a row of real scores. -/
theorem weights_coe (x : FVec Ideal S8x2x16384x16384 .f32) (t : Fin 16384 → ℝ) (h : Fin 8) (s : Fin 2) (R : Fin 16384)
    (hx : ∀ j, x (ix4 h s R j) = (t j : EReal)) (j : Fin 16384) : weights (exps x (rowMax x)) (ix4 h s R j) = ((wt t j : ℝ) : EReal) := by
  have hN : 0 < 16384 := by norm_num
  obtain ⟨T, hT⟩ := top_coe hN t
  have hE : ∀ j, exps x (rowMax x) (ix4 h s R j) = Ideal.exp ((t j : EReal) - (T : EReal)) := by
    intro j
    rw [exps_apply, rowMax_apply, neg_inf, max_bot_left, funext hx, hT, hx]
  rw [weights_apply, hE, Finset.sum_congr rfl fun i _ => hE i]
  exact div_exp hN t T j

/-- The reference's result at an index, over the same reals. -/
theorem reference_at (a0 a1 : FVec Ideal S16384x8x2x64 .f32) (a2 : FVec Ideal S16384x8x128 .f32) (a3 a4 a5 a6 : FVec Ideal S64 .f32) (a7 : FVec Ideal S128 .f32)
    (q k : Fin 16384 → Fin 8 → Fin 2 → Fin 64 → ℝ) (v : Fin 16384 → Fin 8 → Fin 128 → ℝ) (l : ℝ)
    (hq : ∀ r h s d, a0 (ix4 r h s d) = (q r h s d : EReal)) (hk : ∀ r h s d, a1 (ix4 r h s d) = (k r h s d : EReal))
    (hv : ∀ r h e, a2 (ix3 r h e) = (v r h e : EReal)) (hl : Cert.KernelIdeal.Out.mixOf a3 a4 a5 a6 = (l : EReal))
    (h : Fin 8) (R : Fin 16384) (e : Fin 128) (a : Fin 1024) (ha : a.val = 128 * h.val + e.val) :
    final (mixed a2 (weights (exps (scores a0 a1) (rowMax (scores a0 a1)))) (lam a3 a4 a5 a6)) a7 (ix2 R a)
      = Cert.KernelIdeal.Step.normed (fun x => ((Cert.KernelIdeal.Run.att q k v h 0 R x - l * Cert.KernelIdeal.Run.att q k v h 1 R x : ℝ) : EReal)) (fun x => a7 (ix1 x)) e := by
  have hw : ∀ (s : Fin 2) (j : Fin 16384), weights (exps (scores a0 a1) (rowMax (scores a0 a1))) (ix4 h s R j)
      = ((wt (fun j => (∑ d : Fin 64, q R h s d * k j h s d) * (1 / 8)) j : ℝ) : EReal) := by
    intro s j
    exact weights_coe _ _ h s R (scores_apply a0 a1 q k hq hk h s R) j
  have ho : ∀ x : Fin 128, mixed a2 (weights (exps (scores a0 a1) (rowMax (scores a0 a1)))) (lam a3 a4 a5 a6) (ix3 R h x)
      = ((Cert.KernelIdeal.Run.att q k v h 0 R x - l * Cert.KernelIdeal.Run.att q k v h 1 R x : ℝ) : EReal) := by
    intro x
    have hlam : lam a3 a4 a5 a6 ix0 = (l : EReal) := (lam_apply a3 a4 a5 a6 ix0).trans hl
    rw [mixed_apply _ _ _ ix0, hlam]
    simp only [hw, hv, ← EReal.coe_mul, ← EReal.coe_sub]
    rw [← coe_sum]
    refine congrArg (fun x : ℝ => (x : EReal)) ?_
    unfold Cert.KernelIdeal.Run.att
    rw [Finset.mul_sum, ← Finset.sum_sub_distrib]
    exact Finset.sum_congr rfl fun j _ => by ring
  rw [final_apply _ _ R a h e ha]
  simp only [ho]
  rfl

end Cert.ReferenceIdeal.Read

end
-- ==== Proof.ExpertsBody.lean ====
/-
  The body of the experts' call run once: a tile in use leaves its block of the output at eight stored slabs, any other
  tile leaves it at zeros.
-/
module

public import proofs.«01_k».proof.Proof.Gen.Experts.Skeleton
public import proofs.«01_k».proof.Proof.Gen.Experts.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option Elab.async false

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' groups and the one word counting the tiles in use, whole. -/
abbrev tbM0_0 : Memref sig .tc .smem S36 .i32 := Memref.whole main_arg0
abbrev tbM0_1 : Memref sig .tc .smem S1 .i32 := Memref.whole main_arg1

/-- The count of the tiles in use, as the body loads it. -/
abbrev nv (T1 : (S1.Idx → Elt F .i32)) : Elt F .i32 :=
  View.readAt (Elt F) (tbM0_1).view (Rect.unit (s := S1) ![0] S1.size inb_S1_S1_0).toLoadRect T1 (Shape.Idx.first (numel1_S1.symm ▸ Nat.one_pos))

/-- The staging buffer of the output, through which its contents are stated. -/
abbrev VO0_5 : View sig .tc .vmem S512x8x128 .f32 := (Memref.whole cc0_stg5_0 : Memref sig .tc .vmem S512x8x128 .f32).view

set_option backward.proofsInPublic true in
set_option maxHeartbeats 8000000 in
/-- A tile in use: what the body stores, with the proof that it runs from the inputs at their blocks and the two tables
    to the same and the output at the stored pieces. -/
noncomputable def kernelRun0_A (c : Dev nD) (i : grid0.Coords) (arg3 : Memref sig .tc .vmem S512x8x128 .f32) (harg3 : arg3.IsWhole) (arg4 : Memref sig .tc .vmem S512x128 .f32) (harg4 : arg4.IsWhole) (arg5 : Memref sig .tc .vmem S4x1024x512 .bf16) (harg5 : arg5.IsWhole) (arg6 : Memref sig .tc .vmem S4x1024x512 .bf16) (harg6 : arg6.IsWhole) (arg7 : Memref sig .tc .vmem S4x512x1024 .bf16) (harg7 : arg7.IsWhole) (arg8 : Memref sig .tc .vmem S512x8x128 .f32) (harg8 : arg8.IsWhole) (T0 : (S36.Idx → Elt F .i32)) (T1 : (S1.Idx → Elt F .i32))
     (x0 : (S512x8x128.Idx → Elt F .f32)) (x1 : (S512x128.Idx → Elt F .f32)) (x2 : (S4x1024x512.Idx → Elt F .bf16)) (x3 : (S4x1024x512.Idx → Elt F .bf16)) (x4 : (S4x512x1024.Idx → Elt F .bf16)) (k0_h1 : k0_cond1 i (nv T1) = 1#1) (k0_h2 : ¬(k0_cond2 i (nv T1) = 1#1)) :
    { out0 : List (View.Piece (Elt F) S512x8x128 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_expert i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_expert_eq_skeleton]; unfold cc0_moe_expert_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- The eight slabs a tile in use stores tile its block. -/
theorem cover0_A_5 (c : Dev nD) (i : grid0.Coords) (arg3 : Memref sig .tc .vmem S512x8x128 .f32) (harg3 : arg3.IsWhole) (arg4 : Memref sig .tc .vmem S512x128 .f32) (harg4 : arg4.IsWhole) (arg5 : Memref sig .tc .vmem S4x1024x512 .bf16) (harg5 : arg5.IsWhole) (arg6 : Memref sig .tc .vmem S4x1024x512 .bf16) (harg6 : arg6.IsWhole) (arg7 : Memref sig .tc .vmem S4x512x1024 .bf16) (harg7 : arg7.IsWhole) (arg8 : Memref sig .tc .vmem S512x8x128 .f32) (harg8 : arg8.IsWhole) (T0 : (S36.Idx → Elt F .i32)) (T1 : (S1.Idx → Elt F .i32))
     (x0 : (S512x8x128.Idx → Elt F .f32)) (x1 : (S512x128.Idx → Elt F .f32)) (x2 : (S4x1024x512.Idx → Elt F .bf16)) (x3 : (S4x1024x512.Idx → Elt F .bf16)) (x4 : (S4x512x1024.Idx → Elt F .bf16)) (k0_h1 : k0_cond1 i (nv T1) = 1#1) (k0_h2 : ¬(k0_cond2 i (nv T1) = 1#1)) (y : S512x8x128.Idx) :
    ∃ pc ∈ (kernelRun0_A c i arg3 harg3 arg4 harg4 arg5 harg5 arg6 harg6 arg7 harg7 arg8 harg8 T0 T1 x0 x1 x2 x3 x4 k0_h1 k0_h2).1, y ∈ pc.1.set :=
  View.cover_of_tiledL (kernelRun0_A c i arg3 harg3 arg4 harg4 arg5 harg5 arg6 harg6 arg7 harg7 arg8 harg8 T0 T1 x0 x1 x2 x3 x4 k0_h1 k0_h2).1 S512x1x128.size (by sl_kernel_rfl) y

/-- What a tile in use leaves in the output's buffer. -/
def out0_A_5 (c : Dev nD) (i : grid0.Coords) (arg3 : Memref sig .tc .vmem S512x8x128 .f32) (harg3 : arg3.IsWhole) (arg4 : Memref sig .tc .vmem S512x128 .f32) (harg4 : arg4.IsWhole) (arg5 : Memref sig .tc .vmem S4x1024x512 .bf16) (harg5 : arg5.IsWhole) (arg6 : Memref sig .tc .vmem S4x1024x512 .bf16) (harg6 : arg6.IsWhole) (arg7 : Memref sig .tc .vmem S4x512x1024 .bf16) (harg7 : arg7.IsWhole) (arg8 : Memref sig .tc .vmem S512x8x128 .f32) (harg8 : arg8.IsWhole) (T0 : (S36.Idx → Elt F .i32)) (T1 : (S1.Idx → Elt F .i32))
     (x0 : (S512x8x128.Idx → Elt F .f32)) (x1 : (S512x128.Idx → Elt F .f32)) (x2 : (S4x1024x512.Idx → Elt F .bf16)) (x3 : (S4x1024x512.Idx → Elt F .bf16)) (x4 : (S4x512x1024.Idx → Elt F .bf16)) (k0_h1 : k0_cond1 i (nv T1) = 1#1) (k0_h2 : ¬(k0_cond2 i (nv T1) = 1#1)) : (S512x8x128.Idx → Elt F .f32) :=
  VO0_5.read (Elt F) (VO0_5.writes (Elt F) VO0_5.junk (kernelRun0_A c i arg3 harg3 arg4 harg4 arg5 harg5 arg6 harg6 arg7 harg7 arg8 harg8 T0 T1 x0 x1 x2 x3 x4 k0_h1 k0_h2).1)

set_option backward.proofsInPublic true in
set_option maxHeartbeats 8000000 in
/-- A tile not in use: the body stores zeros. -/
noncomputable def kernelRun0_B (c : Dev nD) (i : grid0.Coords) (arg3 : Memref sig .tc .vmem S512x8x128 .f32) (harg3 : arg3.IsWhole) (arg4 : Memref sig .tc .vmem S512x128 .f32) (harg4 : arg4.IsWhole) (arg5 : Memref sig .tc .vmem S4x1024x512 .bf16) (harg5 : arg5.IsWhole) (arg6 : Memref sig .tc .vmem S4x1024x512 .bf16) (harg6 : arg6.IsWhole) (arg7 : Memref sig .tc .vmem S4x512x1024 .bf16) (harg7 : arg7.IsWhole) (arg8 : Memref sig .tc .vmem S512x8x128 .f32) (harg8 : arg8.IsWhole) (T0 : (S36.Idx → Elt F .i32)) (T1 : (S1.Idx → Elt F .i32))
     (x0 : (S512x8x128.Idx → Elt F .f32)) (x1 : (S512x128.Idx → Elt F .f32)) (x2 : (S4x1024x512.Idx → Elt F .bf16)) (x3 : (S4x1024x512.Idx → Elt F .bf16)) (x4 : (S4x512x1024.Idx → Elt F .bf16)) (k0_h1 : ¬(k0_cond1 i (nv T1) = 1#1)) (k0_h2 : k0_cond2 i (nv T1) = 1#1) :
    { out0 : List (View.Piece (Elt F) S512x8x128 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_expert i tbM0_0 (Memref.isWhole_whole _) tbM0_1 (Memref.isWhole_whole _) arg3 harg3 arg4 harg4 arg5 harg5 arg6 harg6 arg7 harg7 arg8 harg8) K } :=
  ⟨_, fun K => by
    unfold owns
    rw [cc0_moe_expert_eq_skeleton]; unfold cc0_moe_expert_skel
    iintro ⟨H0, H1, H2, H3, H4, HT0, HT1, ⟨%d5, %f5, -, HO5⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

/-- One store is the whole block. -/
theorem cover0_B_5 (c : Dev nD) (i : grid0.Coords) (arg3 : Memref sig .tc .vmem S512x8x128 .f32) (harg3 : arg3.IsWhole) (arg4 : Memref sig .tc .vmem S512x128 .f32) (harg4 : arg4.IsWhole) (arg5 : Memref sig .tc .vmem S4x1024x512 .bf16) (harg5 : arg5.IsWhole) (arg6 : Memref sig .tc .vmem S4x1024x512 .bf16) (harg6 : arg6.IsWhole) (arg7 : Memref sig .tc .vmem S4x512x1024 .bf16) (harg7 : arg7.IsWhole) (arg8 : Memref sig .tc .vmem S512x8x128 .f32) (harg8 : arg8.IsWhole) (T0 : (S36.Idx → Elt F .i32)) (T1 : (S1.Idx → Elt F .i32))
     (x0 : (S512x8x128.Idx → Elt F .f32)) (x1 : (S512x128.Idx → Elt F .f32)) (x2 : (S4x1024x512.Idx → Elt F .bf16)) (x3 : (S4x1024x512.Idx → Elt F .bf16)) (x4 : (S4x512x1024.Idx → Elt F .bf16)) (k0_h1 : ¬(k0_cond1 i (nv T1) = 1#1)) (k0_h2 : k0_cond2 i (nv T1) = 1#1) (y : S512x8x128.Idx) :
    ∃ pc ∈ (kernelRun0_B c i arg3 harg3 arg4 harg4 arg5 harg5 arg6 harg6 arg7 harg7 arg8 harg8 T0 T1 x0 x1 x2 x3 x4 k0_h1 k0_h2).1, y ∈ pc.1.set :=
  View.cover_of_tiledL (kernelRun0_B c i arg3 harg3 arg4 harg4 arg5 harg5 arg6 harg6 arg7 harg7 arg8 harg8 T0 T1 x0 x1 x2 x3 x4 k0_h1 k0_h2).1 S512x8x128.size (by sl_kernel_rfl) y

/-- What a tile not in use leaves in the output's buffer. -/
def out0_B_5 (c : Dev nD) (i : grid0.Coords) (arg3 : Memref sig .tc .vmem S512x8x128 .f32) (harg3 : arg3.IsWhole) (arg4 : Memref sig .tc .vmem S512x128 .f32) (harg4 : arg4.IsWhole) (arg5 : Memref sig .tc .vmem S4x1024x512 .bf16) (harg5 : arg5.IsWhole) (arg6 : Memref sig .tc .vmem S4x1024x512 .bf16) (harg6 : arg6.IsWhole) (arg7 : Memref sig .tc .vmem S4x512x1024 .bf16) (harg7 : arg7.IsWhole) (arg8 : Memref sig .tc .vmem S512x8x128 .f32) (harg8 : arg8.IsWhole) (T0 : (S36.Idx → Elt F .i32)) (T1 : (S1.Idx → Elt F .i32))
     (x0 : (S512x8x128.Idx → Elt F .f32)) (x1 : (S512x128.Idx → Elt F .f32)) (x2 : (S4x1024x512.Idx → Elt F .bf16)) (x3 : (S4x1024x512.Idx → Elt F .bf16)) (x4 : (S4x512x1024.Idx → Elt F .bf16)) (k0_h1 : ¬(k0_cond1 i (nv T1) = 1#1)) (k0_h2 : k0_cond2 i (nv T1) = 1#1) : (S512x8x128.Idx → Elt F .f32) :=
  VO0_5.read (Elt F) (VO0_5.writes (Elt F) VO0_5.junk (kernelRun0_B c i arg3 harg3 arg4 harg4 arg5 harg5 arg6 harg6 arg7 harg7 arg8 harg8 T0 T1 x0 x1 x2 x3 x4 k0_h1 k0_h2).1)

end Cert.Experts.Hand

end
-- ==== Proof.ExpertsLaunch.lean ====
/-
  The experts' call from any launch memory whose tables the pipeline admits: it terminates, leaves its arguments as
  they were and its result at what the points wrote.
-/
module

public import proofs.«01_k».proof.Proof.ExpertsBody
public import Idealize.ShloMosaic.Lib.Pipeline.Kit
public import Idealize.ShloMosaic.Lib.Pipeline.Frame
public import Idealize.ShloMosaic.Lib.Pipeline.Quiescent
public import Idealize.ShloMosaic.Lib.StableHlo.Run
public import Idealize.ShloMosaic.Lib.Claim
public import Idealize.ShloMosaic.Lib.Pipeline.TableIdle
public import Idealize.ShloMosaic.Lib.Affine
public import Idealize.ShloMosaic.Adequacy

@[expose] public section

set_option maxRecDepth 16384
set_option Elab.async false

noncomputable section

namespace Cert.Experts.Hand

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-! ## The buffers when the grid is entered -/

/-- The buffers when the grid is entered: after the three conversions. -/
abbrev V (c : Dev nD) (b : Ref sig .tc) : Buf (Elt F) ((c : Thread nD τ).loc b) := StableHlo.after hostOps0 (fun b => m (c, b)) b

/-- The conversions before the grid take no new buffers. -/
theorem hostOps0_fresh : (hostOps0 : List (HloOp τ sig (Elt F))).Forall fun op => op.fresh = ∅ := by
  simp only [List.Forall]; repeat' constructor

/-- A buffer that is none of the three converted weights is as it was launched. -/
theorem V_kept (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-! ## The pipeline at its tables -/

abbrev cfgA : Pipeline.Cfg sig Λ₀ := cfg0 (F := F) a
abbrev pcs : Fin 1 → Pipeline.Cfg sig Λ₀ := Pipeline.pin (pcfgs (F := F)) fun _ => a

/-- The two tables. -/
abbrev T0 : S36.Idx → Elt F .i32 := a.1 0
abbrev T1 : S1.Idx → Elt F .i32 := a.1 1

abbrev crd (t : Fin (cfgA a).N) : (cfgA a).grid.Coords := (cfgA a).grid.coords t

abbrev ms0_0 (t : Fin (cfgA a).N) : Memref sig .tc .vmem S512x8x128 .f32 := spec0_0.stage ((cfgA a).slots t (0 : Fin 6))
abbrev hs0_0 (t : Fin (cfgA a).N) : (ms0_0 a t).IsWhole := hstage0_0 (((cfgA a).slots t (0 : Fin 6)).cast nbuf0_0)
abbrev ms0_1 (t : Fin (cfgA a).N) : Memref sig .tc .vmem S512x128 .f32 := spec0_1.stage ((cfgA a).slots t (1 : Fin 6))
abbrev hs0_1 (t : Fin (cfgA a).N) : (ms0_1 a t).IsWhole := hstage0_1 (((cfgA a).slots t (1 : Fin 6)).cast nbuf0_1)
abbrev ms0_2 (t : Fin (cfgA a).N) : Memref sig .tc .vmem S4x1024x512 .bf16 := spec0_2.stage ((cfgA a).slots t (2 : Fin 6))
abbrev hs0_2 (t : Fin (cfgA a).N) : (ms0_2 a t).IsWhole := hstage0_2 (((cfgA a).slots t (2 : Fin 6)).cast nbuf0_2)
abbrev ms0_3 (t : Fin (cfgA a).N) : Memref sig .tc .vmem S4x1024x512 .bf16 := spec0_3.stage ((cfgA a).slots t (3 : Fin 6))
abbrev hs0_3 (t : Fin (cfgA a).N) : (ms0_3 a t).IsWhole := hstage0_3 (((cfgA a).slots t (3 : Fin 6)).cast nbuf0_3)
abbrev ms0_4 (t : Fin (cfgA a).N) : Memref sig .tc .vmem S4x512x1024 .bf16 := spec0_4.stage ((cfgA a).slots t (4 : Fin 6))
abbrev hs0_4 (t : Fin (cfgA a).N) : (ms0_4 a t).IsWhole := hstage0_4 (((cfgA a).slots t (4 : Fin 6)).cast nbuf0_4)
abbrev ms0_5 (t : Fin (cfgA a).N) : Memref sig .tc .vmem S512x8x128 .f32 := spec0_5.stage ((cfgA a).slots t (5 : Fin 6))
abbrev hs0_5 (t : Fin (cfgA a).N) : (ms0_5 a t).IsWhole := hstage0_5 (((cfgA a).slots t (5 : Fin 6)).cast nbuf0_5)

/-- Window `w`'s block at point `t`, read off its array when the grid is entered. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-! ## The two branches of a point -/

/-- The first branch is taken exactly when the point's number is below the count. -/
theorem cond1_iff (i : grid0.Coords) (w : BitVec 32) : k0_cond1 i w = 1#1 ↔ (BitVec.ofNat 32 (i 0).val).toInt < w.toInt := by
  show (IntOp.cmpi .ne (BitVec.setWidth 32 (BitVec.ofBool (decide ((BitVec.ofNat 32 (i 0).val).toInt < w.toInt)))) 0#32) = 1#1 ↔ _
  by_cases h : (BitVec.ofNat 32 (i 0).val).toInt < w.toInt
  · rw [decide_eq_true h]; exact iff_of_true (by decide) h
  · rw [decide_eq_false h]; exact iff_of_false (by decide) h

/-- The second branch is taken exactly when the count is at most the point's number. -/
theorem cond2_iff (i : grid0.Coords) (w : BitVec 32) : k0_cond2 i w = 1#1 ↔ w.toInt ≤ (BitVec.ofNat 32 (i 0).val).toInt := by
  show (IntOp.cmpi .ne (BitVec.setWidth 32 (BitVec.ofBool (decide (w.toInt ≤ (BitVec.ofNat 32 (i 0).val).toInt)))) 0#32) = 1#1 ↔ _
  by_cases h : w.toInt ≤ (BitVec.ofNat 32 (i 0).val).toInt
  · rw [decide_eq_true h]; exact iff_of_true (by decide) h
  · rw [decide_eq_false h]; exact iff_of_false (by decide) h

/-- The second branch is taken exactly when the first is not. -/
theorem cond_iff (i : grid0.Coords) (w : BitVec 32) : k0_cond2 i w = 1#1 ↔ ¬k0_cond1 i w = 1#1 := by
  rw [cond1_iff, cond2_iff, Int.not_lt]

/-- The output is stored at every point. -/
theorem live (t : Fin (cfgA a).N) : (cfgA a).idle (5 : Fin 6) ((cfgA a).grid.coords t) = false := by
  show (!(k0_cond1 (crd a t) (a.1.atD 1 ![0]) == 1#1) && !(k0_cond2 (crd a t) (a.1.atD 1 ![0]) == 1#1)) = false
  have h := cond_iff (crd a t) (a.1.atD 1 ![0])
  by_cases h1 : k0_cond1 (crd a t) (a.1.atD 1 ![0]) = 1#1
  · simp [h1]
  · simp [h1, h.2 h1]

/-- The tile is in use at point `t`. -/
abbrev Used (t : Fin (cfgA a).N) : Prop := k0_cond1 (crd a t) (nv (T1 a)) = 1#1

/-- What the output's buffer holds after point `t`. -/
def outAt (c : Dev nD) (t : Fin (cfgA a).N) : S512x8x128.Idx → Elt F .f32 :=
  if h : Used a t then
    out0_A_5 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (T0 a) (T1 a)
      (iblk a m c (0 : Fin 6) t) (iblk a m c (1 : Fin 6) t) (iblk a m c (2 : Fin 6) t) (iblk a m c (3 : Fin 6) t) (iblk a m c (4 : Fin 6) t) h (fun h2 => (cond_iff _ _).1 h2 h)
  else
    out0_B_5 c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (T0 a) (T1 a)
      (iblk a m c (0 : Fin 6) t) (iblk a m c (1 : Fin 6) t) (iblk a m c (2 : Fin 6) t) (iblk a m c (3 : Fin 6) t) (iblk a m c (4 : Fin 6) t) h ((cond_iff _ _).2 h)

/-! ## The proof data -/

/-- What each window's buffer holds after each point, and what stays beside: the tables. -/
def dats (_ : Fin 1) (c : Dev nD) : Dat τ (Elt F) Unit ℕ (UR sig nD τ) ℕ (cfgA a) c where
  A w := V m c (Pipeline.arrRef spec0 w)
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => outAt a m c t
  Φ _ := iprop(Pipeline.ΦA spec0 c ∗ Pipeline.ΦT pre0 a.1 c)
  q _ := fullShare
  owed _ := 0

/-- What each window's buffer holds after a point: an input its block, the output what the point leaves. -/
theorem after0_0 (c : Dev nD) (t : Fin (cfgA a).N) : (dats a m 0 c).after (0 : Fin 6) t = iblk a m c (0 : Fin 6) t := rfl
/-- The second window. -/
theorem after0_1 (c : Dev nD) (t : Fin (cfgA a).N) : (dats a m 0 c).after (1 : Fin 6) t = iblk a m c (1 : Fin 6) t := rfl
/-- The third window. -/
theorem after0_2 (c : Dev nD) (t : Fin (cfgA a).N) : (dats a m 0 c).after (2 : Fin 6) t = iblk a m c (2 : Fin 6) t := rfl
/-- The fourth window. -/
theorem after0_3 (c : Dev nD) (t : Fin (cfgA a).N) : (dats a m 0 c).after (3 : Fin 6) t = iblk a m c (3 : Fin 6) t := rfl
/-- The fifth window. -/
theorem after0_4 (c : Dev nD) (t : Fin (cfgA a).N) : (dats a m 0 c).after (4 : Fin 6) t = iblk a m c (4 : Fin 6) t := rfl
/-- The output's window. -/
theorem after0_5 (c : Dev nD) (t : Fin (cfgA a).N) : (dats a m 0 c).after (5 : Fin 6) t = outAt a m c t := rfl

/-- Each input window holds its block when the body runs. -/
theorem before0_0 (c : Dev nD) (t : Fin (cfgA a).N) (d) : (dats a m 0 c).before (0 : Fin 6) t d = iblk a m c (0 : Fin 6) t :=
  ((dats a m 0 c).before_in_eq_fetched (0 : Fin 6) rfl (fun _ => rfl) (fun _ _ _ => rfl) (fun t => by rw [after0_0]; unfold Dat.blockOf iblk; rfl) t d).trans
    (by unfold Dat.fetched Dat.blockOf iblk; rfl)
/-- The same for the second window. -/
theorem before0_1 (c : Dev nD) (t : Fin (cfgA a).N) (d) : (dats a m 0 c).before (1 : Fin 6) t d = iblk a m c (1 : Fin 6) t :=
  ((dats a m 0 c).before_in_eq_fetched (1 : Fin 6) rfl (fun _ => rfl) (fun _ _ _ => rfl) (fun t => by rw [after0_1]; unfold Dat.blockOf iblk; rfl) t d).trans
    (by unfold Dat.fetched Dat.blockOf iblk; rfl)
/-- The same for the third window. -/
theorem before0_2 (c : Dev nD) (t : Fin (cfgA a).N) (d) : (dats a m 0 c).before (2 : Fin 6) t d = iblk a m c (2 : Fin 6) t :=
  ((dats a m 0 c).before_in_eq_fetched (2 : Fin 6) rfl (fun _ => rfl) (fun _ _ _ => rfl) (fun t => by rw [after0_2]; unfold Dat.blockOf iblk; rfl) t d).trans
    (by unfold Dat.fetched Dat.blockOf iblk; rfl)
/-- The same for the fourth window. -/
theorem before0_3 (c : Dev nD) (t : Fin (cfgA a).N) (d) : (dats a m 0 c).before (3 : Fin 6) t d = iblk a m c (3 : Fin 6) t :=
  ((dats a m 0 c).before_in_eq_fetched (3 : Fin 6) rfl (fun _ => rfl) (fun _ _ _ => rfl) (fun t => by rw [after0_3]; unfold Dat.blockOf iblk; rfl) t d).trans
    (by unfold Dat.fetched Dat.blockOf iblk; rfl)
/-- The same for the fifth window. -/
theorem before0_4 (c : Dev nD) (t : Fin (cfgA a).N) (d) : (dats a m 0 c).before (4 : Fin 6) t d = iblk a m c (4 : Fin 6) t :=
  ((dats a m 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- The tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What stays beside the windows, with the tables one by one. -/
theorem Phi_eq (c : Dev nD) (t) : (dats a m 0 c).Φ t
    = iprop(Pipeline.ΦA spec0 c ∗ ((tbM0_0.view.loc (c : Thread nD τ) ↦{fullShare.right} T0 a) ∗ (tbM0_1.view.loc (c : Thread nD τ) ↦{fullShare.right} T1 a))) := by
  show iprop(Pipeline.ΦA spec0 c ∗ Pipeline.ΦT pre0 a.1 c) = _
  unfold Pipeline.ΦT
  rw [prefHeld_eq]

/-- The body at point `t` on its staging memrefs. -/
abbrev bodyAt0 (t : Fin (cfgA a).N) : Prog (TpuEff nD τ sig (Elt F) Λ₀ .tc) PUnit :=
  cc0_moe_expert (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t)

set_option maxHeartbeats 4000000 in
/-- The body at any point, from the inputs at their blocks to the output at what the point's branch leaves. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 6) t d))
        ∗ (∃ d, owns (c : Thread nD τ) (ms0_1 a t) fullShare ((dats a m 0 c).before (1 : Fin 6) t d))
        ∗ (∃ d, owns (c : Thread nD τ) (ms0_2 a t) fullShare ((dats a m 0 c).before (2 : Fin 6) t d))
        ∗ (∃ d, owns (c : Thread nD τ) (ms0_3 a t) fullShare ((dats a m 0 c).before (3 : Fin 6) t d))
        ∗ (∃ d, owns (c : Thread nD τ) (ms0_4 a t) fullShare ((dats a m 0 c).before (4 : Fin 6) t d))
        ∗ (∃ d, owns (c : Thread nD τ) (ms0_5 a t) fullShare ((dats a m 0 c).before (5 : Fin 6) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [live a t]
  simp only [before0_0, before0_1, before0_2, before0_3, before0_4, after0_0, after0_1, after0_2, after0_3, after0_4, after0_5]
  rewrite [Phi_eq, Phi_eq, show (dats a m 0 c).owesAt () t.succ = (dats a m 0 c).owesAt () t.castSucc from rfl]
  by_cases h : Used a t
  · rw [show outAt a m c t = _ from dif_pos h]
    iintro ⟨⟨HA, HT0, HT1⟩, Ho, ⟨%d0, H0⟩, ⟨%d1, H1⟩, ⟨%d2, H2⟩, ⟨%d3, H3⟩, ⟨%d4, H4⟩, ⟨%d5, H5⟩⟩
    iapply ((kernelRun0_A c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (T0 a) (T1 a) (iblk a m c (0 : Fin 6) t) (iblk a m c (1 : Fin 6) t) (iblk a m c (2 : Fin 6) t) (iblk a m c (3 : Fin 6) t) (iblk a m c (4 : Fin 6) t) h (fun h2 => (cond_iff _ _).1 h2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _)
  · rw [show outAt a m c t = _ from dif_neg h]
    iintro ⟨⟨HA, HT0, HT1⟩, Ho, ⟨%d0, H0⟩, ⟨%d1, H1⟩, ⟨%d2, H2⟩, ⟨%d3, H3⟩, ⟨%d4, H4⟩, ⟨%d5, H5⟩⟩
    iapply ((kernelRun0_B c (crd a t) (ms0_0 a t) (hs0_0 a t) (ms0_1 a t) (hs0_1 a t) (ms0_2 a t) (hs0_2 a t) (ms0_3 a t) (hs0_3 a t) (ms0_4 a t) (hs0_4 a t) (ms0_5 a t) (hs0_5 a t) (T0 a) (T1 a) (iblk a m c (0 : Fin 6) t) (iblk a m c (1 : Fin 6) t) (iblk a m c (2 : Fin 6) t) (iblk a m c (3 : Fin 6) t) (iblk a m c (4 : Fin 6) t) h ((cond_iff _ _).2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (cover0_B_5 c _ _ _ _ _ _ _ _ _ _ _ _ _ _ _ _ _ _ _ _ _ _)

/-- The library's body obligation, at every point. -/
theorem body_obligation (c : Dev nD) : BodyObligation (dats a m 0 c) (defs₀ (F := F)) Variants.none () Set.univ := fun t => by
  rw [bigSep_W0]
  exact sound_body a m c t

/-! ## The launch -/

set_option backward.isDefEq.respectTransparency.types false in
set_option maxHeartbeats 4000000 in
/-- From any memory holding the tables `a` and zero counters, every run ends, each window's array at what the proof
    data says, every other buffer as the grid found it, and every counter at zero. -/
theorem run_main (hpf : ∀ (c : Dev nD) (k : Fin 2), m ((c : Thread nD τ).loc (pre0.ref k)) = a.1 k) :
    θ_run defs (onTc (τ := τ) (main (F := F))) (s₀ m ρ) (fun r => Pipeline.FramePost (pcs a) (dats a m) 0 (V m) r ∧ r.2.sem = fun _ => 0) :=
  Pipeline.θ_run_frameP (Q' := _) pcfgs (fun _ => a) (dats a m) (0 : Fin 1) launch0 defs₀ Variants.none m ρ main
    (hbody := fun c => (body_obligation a m c).loose) (hshare := fun c => (dats a m 0 c).share_full fun _ => rfl)
    (howed := fun _ _ => rfl) (V := V m)
    (hmain := Pipeline.hmainP_prefix pcfgs 0 defs₀ Variants.none m main hostOps0 hostOps0_sub hostOps0_fresh main_chain)
    (hA := fun _ _ => rfl)
    (hpf := fun c k => by
      refine Eq.trans ?_ (hpf c k)
      fin_cases k
      · exact V_kept m c main_arg0 (by decide) (by decide) (by decide)
      · exact V_kept m c main_arg1 (by decide) (by decide) (by decide))
    (hΦ := fun _ _ => rfl)

/-- The arguments after a run, as they were launched, beside the result at what the points wrote. -/
theorem run_result (hpf : ∀ (c : Dev nD) (k : Fin 2), m ((c : Thread nD τ).loc (pre0.ref k)) = a.1 k) :
    θ_run defs (onTc (τ := τ) (main (F := F))) (s₀ m ρ) (fun r => (∀ c : Dev nD,
      r.2.mem ((c.tc : Thread nD τ).loc main_v3) = (dats a m 0 c).arrAt (5 : Fin 6) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main a m ρ hpf)
  have hw := (h.1 c).1
  have hr := (h.1 c).2
  have rest : ∀ b : Ref sig .tc, b.isScoped = false → (∀ w : Fin 6, (spec0 w).arr.view.ref ≠ b) → b ∈ Pipeline.restRefs sig ((pcs a 0).spec) :=
    fun b hb hw => Pipeline.mem_restRefs_of b hb hw
  exact ⟨hw (5 : Fin 6),
    (hr main_arg0 (rest main_arg0 (by decide) (by decide))).trans (V_kept m c main_arg0 (by decide) (by decide) (by decide)),
    (hr main_arg1 (rest main_arg1 (by decide) (by decide))).trans (V_kept m c main_arg1 (by decide) (by decide) (by decide)),
    (hw (0 : Fin 6)).trans (((dats a m 0 c).arrAt_in (0 : Fin 6) rfl _).trans (V_kept m c main_arg2 (by decide) (by decide) (by decide))),
    (hw (1 : Fin 6)).trans (((dats a m 0 c).arrAt_in (1 : Fin 6) rfl _).trans (V_kept m c main_arg3 (by decide) (by decide) (by decide))),
    (hr main_arg4 (rest main_arg4 (by decide) (by decide))).trans (V_kept m c main_arg4 (by decide) (by decide) (by decide)),
    (hr main_arg5 (rest main_arg5 (by decide) (by decide))).trans (V_kept m c main_arg5 (by decide) (by decide) (by decide)),
    (hr main_arg6 (rest main_arg6 (by decide) (by decide))).trans (V_kept m c main_arg6 (by decide) (by decide) (by decide))⟩

/-! ## Tables in range are admitted -/

/-- A block of four experts whose group is below four lies inside the sixteen. -/
theorem group_inside {n k n' k' : ℕ} (g : ℕ) (hg : g < 4) (hn : n ≤ n') (hk : k ≤ k') (d : Fin 3) :
    ((![g, 0, 0] : Fin 3 → ℕ) d + 1) * (![4, n, k] : Fin 3 → ℕ) d ≤ (![16, n', k'] : Fin 3 → ℕ) d := by
  match d with
  | ⟨0, _⟩ => show (g + 1) * 4 ≤ 16; omega
  | ⟨1, _⟩ => show (0 + 1) * n ≤ n'; omega
  | ⟨2, _⟩ => show (0 + 1) * k ≤ k'; omega

/-- The group whose weights point `i` fetches. -/
def groupAt (pf : pre0.Contents (Elt F)) (i : grid0.Coords) : BitVec 32 :=
  Scalar.select (Scalar.cmpi .slt (BitVec.ofNat 32 (i 0).val) (pf.at 1 (Rect.unit (s := S1) ![0] S1.size inb_S1_S1_0) numel1_S1))
    (pf.at 0 (Rect.unit (s := S36) ![(Scalar.indexCast (BitVec.ofNat 32 (i 0).val) : Index).toNat] S1.size (k0_off1_inb i)) numel1_S1) 3#32

/-- With groups below four in the table, the fetched group is below four. -/
theorem groupAt_lt (pf : pre0.Contents (Elt F)) (h : ∀ x : S36.Idx, (pf 0 x : BitVec 32).toNat < 4) (i : grid0.Coords) : (groupAt pf i).toNat < 4 := by
  have : ∀ (b : BitVec 1) (x : BitVec 32), x.toNat < 4 → (Scalar.select b x 3#32 : BitVec 32).toNat < 4 := by
    intro b x hx
    unfold Scalar.select
    split
    · exact hx
    · decide
  exact this _ _ (h _)

/-- Groups below four keep every block of weights inside its array. -/
theorem ok_of_lt (pf : pre0.Contents (Elt F)) (h : ∀ x : S36.Idx, (pf 0 x : BitVec 32).toNat < 4) : ok0 pf := by
  have g := fun i => groupAt_lt pf h i
  refine ⟨fun i => ⟨group_inside _ (g i) le_rfl le_rfl, .inr (Affine.block_words_dvd (s := S16x1024x512) (p := EltTy.packing .bf16) (by decide) (by decide))⟩,
    fun i => ⟨group_inside _ (g i) le_rfl le_rfl, .inr (Affine.block_words_dvd (s := S16x1024x512) (p := EltTy.packing .bf16) (by decide) (by decide))⟩,
    fun i => ⟨group_inside _ (g i) le_rfl le_rfl, .inr (Affine.block_words_dvd (s := S16x512x1024) (p := EltTy.packing .bf16) (by decide) (by decide))⟩⟩

/-- The tables a launch memory holds. -/
abbrev tabs : pre0.Contents (Elt F) := fun k => m (((0 : Dev nD) : Thread nD τ).loc (pre0.ref k))

/-- They are the tables of every device: there is one. -/
theorem tabs_eq (c : Dev nD) (k : Fin 2) : m ((c : Thread nD τ).loc (pre0.ref k)) = tabs m k := by
  obtain rfl : c = 0 := Subsingleton.elim (α := Fin 1) _ _
  rfl

end Cert.Experts.Hand

end
-- ==== Proof.ExpertsSame.lean ====
/-
  The frames of the experts' call: its two programs are one program, and tables in range are admitted.
-/
module

public import proofs.«01_k».proof.Proof.ExpertsLaunch
public import proofs.«01_k».proof.Proof.Gen.ExpertsIdeal.Launch
public import proofs.«01_k».proof.Proof.Gen.ExpertsReferenceIdeal.Run
public import proofs.«01_k».proof.Proof.Gen.Pre_groups_in_range
public import proofs.«01_k».proof.Defs
public import proofs.«01_k».proof.Proof.Finite
public import Idealize.ShloMosaic.Adequacy
public import Idealize.ShloMosaic.Init
public import Idealize.ShloMosaic.Lib.Quiescent
public import Idealize.ShloMosaic.Lib.ReduceAll
public import Idealize.ShloMosaic.Lib.WordCmp
public import Idealize.ShloMosaic.Lib.Pointwise

@[expose] public section

set_option maxRecDepth 16384

noncomputable section

namespace Cert.Experts.Same

open Idealize.ShloMosaic Idealize.ShloMosaic.TcCoe Idealize.SL.Sem

variable {F : FTy → Type} [FloatOps F]

/-! ## The two programs -/

/-- The two mains are one. -/
theorem main_eq : Cert.ExpertsIdeal.main (F := F) = Cert.Experts.main (F := F) := rfl

/-- Their bodies are one. -/
theorem defs₀_eq : Cert.ExpertsIdeal.defs₀ (F := F) = Cert.Experts.defs₀ (F := F) := by
  unfold Cert.ExpertsIdeal.defs₀ Cert.Experts.defs₀
  refine congrArg Defs.onTc ?_
  funext l x
  match l, x with
  | 0, (t, s) => rfl

/-- Their definitions are one. -/
theorem defs_eq : Cert.ExpertsIdeal.defs (F := F) = Cert.Experts.defs (F := F) := by
  unfold Cert.ExpertsIdeal.defs Cert.Experts.defs
  rw [← defs₀_eq]
  rfl

/-! ## The precondition -/

/-- A word at least zero and below four, as signed numbers, is below four. -/
theorem word_lt (w : BitVec 32) (h0 : IntOp.cmpi .sge w 0#32 = 1#1) (h4 : IntOp.cmpi .slt w 4#32 = 1#1) : w.toNat < 4 := by
  have g0 : (0 : Int) ≤ w.toInt := by
    rw [WordCmp.cmpi_sge_eq, WordCmp.ofBool_decide_eq_one_iff] at h0
    exact h0
  have g4 : w.toInt < 4 := by
    rw [WordCmp.cmpi_slt_eq, WordCmp.ofBool_decide_eq_one_iff] at h4
    exact h4
  rw [BitVec.toInt_eq_toNat_cond] at g0 g4
  have := w.isLt
  split at g0 <;> omega

/-- Groups in range, read at a tile. -/
theorem groups_lt [FloatOps F] (x0 x1 x2 x3 x4 x5 x6) (h : Cert.Pre_groups_in_range.fn (F := F) x0 x1 x2 x3 x4 x5 x6 = fun _ => 1#1) (i) : (x0 i : BitVec 32).toNat < 4 := by
  have e := congrFun h (fun d => d.elim0)
  unfold Cert.Pre_groups_in_range.fn at e
  haveI : Subsingleton Cert.Pre_groups_in_range.S_.Idx := ⟨fun a b => funext fun d => d.elim0⟩
  have b : IntOp.andi (IntOp.cmpi .sge (x0 i) 0#32) (IntOp.cmpi .slt (x0 i) 4#32) = 1#1 := Host.reduce_andi_all _ _ _ _ _ e i
  exact word_lt _ (Cert.Finite.and_left b).1 (Cert.Finite.and_left b).2

/-! ## The frames -/

/-- The tables a launch memory holds, admitted where the groups are in range. -/
abbrev adm (m : (ℓ : Loc Cert.Experts.nD Cert.Experts.τ Cert.Experts.sig) → Buf (Elt F) ℓ) (h : ∀ x, (Cert.Experts.Hand.tabs m 0 x : BitVec 32).toNat < 4) :
    (Cert.Experts.pcfg0 (F := F)).Adm := ⟨Cert.Experts.Hand.tabs m, Cert.Experts.Hand.ok_of_lt _ h⟩

/-- The groups of a launch memory that the precondition admits are below four. -/
theorem tabs_lt (m : (ℓ : Loc Cert.Experts.nD Cert.Experts.τ Cert.Experts.sig) → Buf (Elt Ideal) ℓ) (h : Cert.Pre_ExpertsIdeal m) (x) : (Cert.Experts.Hand.tabs m 0 x : BitVec 32).toNat < 4 :=
  groups_lt _ _ _ _ _ _ _ (h 0) x

/-- The call ends with its arguments unchanged and nothing outstanding. -/
theorem experts_frame : Cert.quiescent_Experts := fun m ρ h =>
  (θ_run Cert.Experts.defs _ _).mono (fun _ h => ⟨fun c => (h.1 c).2, h.2⟩)
    (Cert.Experts.Hand.run_result (adm m fun x => groups_lt _ _ _ _ _ _ _ (h 0) x) m ρ (Cert.Experts.Hand.tabs_eq m))

/-- The same over the extended reals, under the second program's names. -/
theorem experts_ideal_frame : Cert.quiescent_ExpertsIdeal := fun m ρ h => by
  have hr := Cert.Experts.Hand.run_result (adm m (tabs_lt m h)) m ρ (Cert.Experts.Hand.tabs_eq m)
  rw [main_eq, defs_eq]
  exact (θ_run Cert.Experts.defs _ _).mono (fun _ h => ⟨fun c => (h.1 c).2, h.2⟩) hr

/-- The reference ends with its arguments unchanged and nothing outstanding. -/
theorem experts_reference_frame : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- The same where the groups are in range. -/
theorem experts_reference_frame_range : Cert.quiescent_ExpertsReferenceIdeal_pre_groups_in_range := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

end Cert.Experts.Same

end
-- ==== Proof.ExpertsStep.lean ====
/-
  One tile's body at an index: four experts' gated projections of the tile's tokens, each weighted by its lane of the
  dispatch record, summed.
-/
module

public import proofs.«01_k».proof.Proof.ExpertsLaunch
public import Idealize.ShloMosaic.Lib.WritesUnit
public import Idealize.ShloMosaic.Lib.Pipeline.ValueKit
public import Idealize.ShloMosaic.Lib.Tactic
public import Idealize.ShloMosaic.Lib.Pointwise

@[expose] public section

set_option maxRecDepth 16384

noncomputable section

namespace Cert.Experts.Step

open Cert.Experts Cert.Experts.Gen Cert.Experts.Hand Idealize.ShloMosaic Idealize.ShloMosaic.TcCoe Idealize.SL.Sem

/-- A token's projection by one matrix. -/
def gate (X : Fin 1024 → EReal) (w : Fin 1024 → Fin 512 → EReal) (f : Fin 512) : EReal := ∑ d : Fin 1024, X d * w d f

/-- A token's hidden value in one expert, weighted by `s`. -/
def act (X : Fin 1024 → EReal) (wg wu : Fin 1024 → Fin 512 → EReal) (s : EReal) (f : Fin 512) : EReal :=
  gate X wg f * Ideal.logistic (gate X wg f) * gate X wu f * s

/-- One expert's weighted output for a token. -/
def part (X : Fin 1024 → EReal) (wg wu : Fin 1024 → Fin 512 → EReal) (wd : Fin 512 → Fin 1024 → EReal) (s : EReal) (n : Fin 1024) : EReal :=
  ∑ f : Fin 512, act X wg wu s f * wd f n

/-- The lane of a token's record that `w` names, as a sum over the lanes. -/
def lane (v : Vec Ideal S512x128 .f32) (w : BitVec 32) (r : Fin 512) : EReal :=
  ∑ l : Fin 128, (Scalar.select (IntOp.cmpi .eq (BitVec.ofNat 32 l.val) w) (v (ix2 r l) : EReal) 0 : EReal)

/-! ## The payloads at an index -/

section Payloads

variable (x : FVec Ideal S512x1024 .bf16) (v : Vec Ideal S512x128 .f32) (b : BitVec 32) (r : Fin 512)

/-- The first expert's lane, kept alone. -/
theorem pay7_apply (g : BitVec 32) (l : Fin 128) : k0_pay7 (F := Ideal) v g (ix2 r l)
    = (Scalar.select (IntOp.cmpi .eq (BitVec.ofNat 32 l.val) (Scalar.addi (Scalar.addi (Scalar.muli g 4#32) 4#32) 0#32)) (v (ix2 r l) : EReal) 0 : EReal) := by
  unfold k0_pay7
  pointwise

/-- The first expert's part, over any weights of the lanes. -/
theorem pay8_apply (s : Vec Ideal S512x128 .f32) (wg wu : Vec Ideal S1x1024x512 .bf16) (wd : Vec Ideal S1x512x1024 .bf16) (n : Fin 1024) :
    k0_pay8 x s wg wu wd (ix2 r n)
      = part (fun d => x (ix2 r d)) (fun d f => wg (ix3 0 d f)) (fun d f => wu (ix3 0 d f)) (fun f n => wd (ix3 0 f n)) (∑ l : Fin 128, s (ix2 r l)) n := by
  unfold k0_pay8
  pointwise
  rfl

/-- The second expert's hidden values. -/
theorem pay9_apply (wg wu : Vec Ideal S1x1024x512 .bf16) (f : Fin 512) :
    k0_pay9 x v (iota .tc S512x128 32 [1] iota_S512x128_d1_w32) b wg wu (ix2 r f)
      = act (fun d => x (ix2 r d)) (fun d f => wg (ix3 0 d f)) (fun d f => wu (ix3 0 d f)) (lane v (Scalar.addi b 1#32) r) f := by
  unfold k0_pay9
  pointwise
  rfl

/-- The first three experts' parts. -/
theorem pay10_apply (p : FVec Ideal S512x1024 .f32) (q : FVec Ideal S512x512 .bf16) (wd1 : Vec Ideal S1x512x1024 .bf16) (wg wu : Vec Ideal S1x1024x512 .bf16)
    (wd : Vec Ideal S1x512x1024 .bf16) (n : Fin 1024) :
    k0_pay10 x v (iota .tc S512x128 32 [1] iota_S512x128_d1_w32) b p q wd1 wg wu wd (ix2 r n)
      = (p (ix2 r n) : EReal) + (∑ f : Fin 512, (q (ix2 r f) : EReal) * wd1 (ix3 0 f n))
        + part (fun d => x (ix2 r d)) (fun d f => wg (ix3 0 d f)) (fun d f => wu (ix3 0 d f)) (fun f n => wd (ix3 0 f n)) (lane v (Scalar.addi b 2#32) r) n := by
  unfold k0_pay10
  pointwise
  rfl

/-- The fourth expert's weight. -/
theorem pay11_apply : k0_pay11 (F := Ideal) v (iota .tc S512x128 32 [1] iota_S512x128_d1_w32) b (ix2 r 0) = lane v (Scalar.addi b 3#32) r := by
  unfold k0_pay11
  pointwise
  rfl

/-- The fourth expert's gate matrix. -/
theorem pay12_apply (w : Vec Ideal S1x1024x512 .bf16) (d : Fin 1024) (f : Fin 512) : k0_pay12 w (ix2 d f) = w (ix3 0 d f) := by
  unfold k0_pay12
  pointwise

/-- All four parts. -/
theorem pay13_apply (p : FVec Ideal S512x1024 .f32) (s : FVec Ideal S512x1 .f32) (wg : FVec Ideal S1024x512 .bf16) (wu : Vec Ideal S1x1024x512 .bf16)
    (wd : Vec Ideal S1x512x1024 .bf16) (n : Fin 1024) :
    k0_pay13 x p s wg wu wd (ix2 r n)
      = (p (ix2 r n) : EReal) + part (fun d => x (ix2 r d)) (fun d f => wg (ix2 d f)) (fun d f => wu (ix3 0 d f)) (fun f n => wd (ix3 0 f n)) (s (ix2 r 0)) n := by
  unfold k0_pay13
  pointwise
  rfl

end Payloads

/-- The four parts in a row: the kernel's sum at an index, given what its operands hold there. -/
theorem parts_apply (x : FVec Ideal S512x1024 .bf16) (v : Vec Ideal S512x128 .f32) (g : BitVec 32) (a0 a1 a2 a3 b0 b1 b2 b3 : Vec Ideal S1x1024x512 .bf16)
    (d0 d1 d2 d3 : Vec Ideal S1x512x1024 .bf16) (r : Fin 512) (n : Fin 1024) :
    k0_pay13 x (k0_pay10 x v (iota .tc S512x128 32 [1] iota_S512x128_d1_w32) (Scalar.addi (Scalar.muli g 4#32) 4#32) (k0_pay8 x (k0_pay7 v g) a0 b0 d0)
        (k0_pay9 x v (iota .tc S512x128 32 [1] iota_S512x128_d1_w32) (Scalar.addi (Scalar.muli g 4#32) 4#32) a1 b1) d1 a2 b2 d2)
        (k0_pay11 v (iota .tc S512x128 32 [1] iota_S512x128_d1_w32) (Scalar.addi (Scalar.muli g 4#32) 4#32)) (k0_pay12 a3) b3 d3 (ix2 r n)
      = part (fun d => x (ix2 r d)) (fun d f => a0 (ix3 0 d f)) (fun d f => b0 (ix3 0 d f)) (fun f n => d0 (ix3 0 f n)) (lane v (Scalar.addi (Scalar.addi (Scalar.muli g 4#32) 4#32) 0#32) r) n
        + part (fun d => x (ix2 r d)) (fun d f => a1 (ix3 0 d f)) (fun d f => b1 (ix3 0 d f)) (fun f n => d1 (ix3 0 f n)) (lane v (Scalar.addi (Scalar.addi (Scalar.muli g 4#32) 4#32) 1#32) r) n
        + part (fun d => x (ix2 r d)) (fun d f => a2 (ix3 0 d f)) (fun d f => b2 (ix3 0 d f)) (fun f n => d2 (ix3 0 f n)) (lane v (Scalar.addi (Scalar.addi (Scalar.muli g 4#32) 4#32) 2#32) r) n
        + part (fun d => x (ix2 r d)) (fun d f => a3 (ix3 0 d f)) (fun d f => b3 (ix3 0 d f)) (fun f n => d3 (ix3 0 f n)) (lane v (Scalar.addi (Scalar.addi (Scalar.muli g 4#32) 4#32) 3#32) r) n := by
  rw [pay13_apply, pay10_apply, pay8_apply, pay11_apply]
  simp only [pay12_apply, pay7_apply]
  refine congrArg₂ (· + ·) (congrArg₂ (· + ·) (congrArg₂ (· + ·) rfl ?_) rfl) rfl
  exact Finset.sum_congr rfl fun f _ => congrArg₂ (· * ·) (pay9_apply x v _ r a1 b1 f) rfl

/-! ## The eight slabs of a row -/

/-- Loading one slab of a block reads that slab. -/
theorem ld_slab (x : Vec Ideal S512x8x128 .f32) (k : Nat) (hk : k < 8) (inb) (r : Fin 512) (l : Fin 128) :
    View.ld x (Rect.unit (s := S512x8x128) ![0, k, 0] ![512, 1, 128] inb) (ix3 r 0 l) = x (ix3 r ⟨k, hk⟩ l) :=
  View.ld_unit_apply_of _ _ _ _ _ _ (fun a => by
    match a with
    | ⟨0, _⟩ => show r.val = 0 + r.val; omega
    | ⟨1, _⟩ => show k = k + 0; omega
    | ⟨2, _⟩ => show l.val = 0 + l.val; omega)

/-- The eight slabs side by side are the row. -/
theorem pay6_slabs (x : Vec Ideal S512x8x128 .f32) (i0 i1 i2 i3 i4 i5 i6 i7) (r : Fin 512) (d : Fin 1024) :
    k0_pay6 (View.ld x (Rect.unit (s := S512x8x128) ![0, 0, 0] ![512, 1, 128] i0)) (View.ld x (Rect.unit (s := S512x8x128) ![0, 1, 0] ![512, 1, 128] i1))
      (View.ld x (Rect.unit (s := S512x8x128) ![0, 2, 0] ![512, 1, 128] i2)) (View.ld x (Rect.unit (s := S512x8x128) ![0, 3, 0] ![512, 1, 128] i3))
      (View.ld x (Rect.unit (s := S512x8x128) ![0, 4, 0] ![512, 1, 128] i4)) (View.ld x (Rect.unit (s := S512x8x128) ![0, 5, 0] ![512, 1, 128] i5))
      (View.ld x (Rect.unit (s := S512x8x128) ![0, 6, 0] ![512, 1, 128] i6)) (View.ld x (Rect.unit (s := S512x8x128) ![0, 7, 0] ![512, 1, 128] i7)) (ix2 r d)
      = x (ix3 r ⟨d.val / 128, by omega⟩ ⟨d.val % 128, Nat.mod_lt _ (by norm_num)⟩) := by
  have e : ∀ (a a' : Fin 8) (l l' : Fin 128), a.val = a'.val → l.val = l'.val → x (ix3 r a l) = x (ix3 r a' l') := by
    intro a a' l l' ha hl
    rw [Fin.ext ha, Fin.ext hl]
  have h := d.isLt
  unfold k0_pay6
  pointwise
  split_ifs <;> first
    | exact e 0 _ _ _ (by show 0 = d.val / 128; omega) (by show _ = d.val % 128; simp only []; omega)
    | exact e 1 _ _ _ (by show 1 = d.val / 128; omega) (by show _ = d.val % 128; simp only []; omega)
    | exact e 2 _ _ _ (by show 2 = d.val / 128; omega) (by show _ = d.val % 128; simp only []; omega)
    | exact e 3 _ _ _ (by show 3 = d.val / 128; omega) (by show _ = d.val % 128; simp only []; omega)
    | exact e 4 _ _ _ (by show 4 = d.val / 128; omega) (by show _ = d.val % 128; simp only []; omega)
    | exact e 5 _ _ _ (by show 5 = d.val / 128; omega) (by show _ = d.val % 128; simp only []; omega)
    | exact e 6 _ _ _ (by show 6 = d.val / 128; omega) (by show _ = d.val % 128; simp only []; omega)
    | exact e 7 _ _ _ (by show 7 = d.val / 128; omega) (by show _ = d.val % 128; simp only []; omega)

/-- After a store of one slab, that slab holds what was stored and the others what they held. -/
theorem slab_cons (k : Nat) (inb) (w : Vec Ideal S512x1x128 .f32) (L : List (View.Piece (Elt Ideal) S512x8x128 .f32)) (r : Fin 512) (s : Fin 8) (l : Fin 128) :
    View.canon (⟨Rect.unit (s := S512x8x128) ![0, k, 0] ![512, 1, 128] inb, w⟩ :: L) (ix3 r s l)
      = if s.val = k then w (ix3 r 0 l) else View.canon L (ix3 r s l) := by
  split_ifs with h
  · have e : (ix3 r s l : S512x8x128.Idx) = (Rect.unit (s := S512x8x128) ![0, k, 0] ![512, 1, 128] inb).emb (ix3 r 0 l) :=
      funext fun a => Fin.ext ((by
        match a with
        | ⟨0, _⟩ => show r.val = 0 + r.val; omega
        | ⟨1, _⟩ => show s.val = k + 0; omega
        | ⟨2, _⟩ => show l.val = 0 + l.val; omega : ((ix3 r s l : S512x8x128.Idx) a : Nat) = ![0, k, 0] a + (ix3 r 0 l : S512x1x128.Idx) a).trans
          (Rect.idx_unit_val (s := S512x8x128) ![0, k, 0] ![512, 1, 128] inb (ix3 r 0 l) a).symm)
    rw [e]
    exact View.canon_cons_emb _ _ _ _
  · refine View.canon_cons_of_not_mem _ L fun hm => h ?_
    obtain ⟨i, hi, he⟩ := (LoadRect.mem_set _).mp hm (1 : Fin 3)
    have hi1 : i < 1 := hi
    have he' : s.val = k + 1 * i := he
    omega

/-- The eight slabs of a row, stored one after the other, hold the row. -/
theorem canon_slabs (tot : Vec Ideal S512x1024 .f32) (w0 w1 w2 w3 w4 w5 w6 w7 : Vec Ideal S512x1x128 .f32) (i0 i1 i2 i3 i4 i5 i6 i7)
    (h0 : ∀ r l, w0 (ix3 r 0 l) = tot (ix2 r ⟨0 + l.val, by omega⟩)) (h1 : ∀ r l, w1 (ix3 r 0 l) = tot (ix2 r ⟨128 + l.val, by omega⟩))
    (h2 : ∀ r l, w2 (ix3 r 0 l) = tot (ix2 r ⟨256 + l.val, by omega⟩)) (h3 : ∀ r l, w3 (ix3 r 0 l) = tot (ix2 r ⟨384 + l.val, by omega⟩))
    (h4 : ∀ r l, w4 (ix3 r 0 l) = tot (ix2 r ⟨512 + l.val, by omega⟩)) (h5 : ∀ r l, w5 (ix3 r 0 l) = tot (ix2 r ⟨640 + l.val, by omega⟩))
    (h6 : ∀ r l, w6 (ix3 r 0 l) = tot (ix2 r ⟨768 + l.val, by omega⟩)) (h7 : ∀ r l, w7 (ix3 r 0 l) = tot (ix2 r ⟨896 + l.val, by omega⟩))
    (r : Fin 512) (s : Fin 8) (l : Fin 128) :
    View.canon [⟨Rect.unit (s := S512x8x128) ![0, 7, 0] ![512, 1, 128] i7, w7⟩, ⟨Rect.unit (s := S512x8x128) ![0, 6, 0] ![512, 1, 128] i6, w6⟩,
        ⟨Rect.unit (s := S512x8x128) ![0, 5, 0] ![512, 1, 128] i5, w5⟩, ⟨Rect.unit (s := S512x8x128) ![0, 4, 0] ![512, 1, 128] i4, w4⟩,
        ⟨Rect.unit (s := S512x8x128) ![0, 3, 0] ![512, 1, 128] i3, w3⟩, ⟨Rect.unit (s := S512x8x128) ![0, 2, 0] ![512, 1, 128] i2, w2⟩,
        ⟨Rect.unit (s := S512x8x128) ![0, 1, 0] ![512, 1, 128] i1, w1⟩, ⟨Rect.unit (s := S512x8x128) ![0, 0, 0] ![512, 1, 128] i0, w0⟩] (ix3 r s l)
      = tot (ix2 r ⟨128 * s.val + l.val, by omega⟩) := by
  have e : ∀ (n n' : Fin 1024), n.val = n'.val → tot (ix2 r n) = tot (ix2 r n') := fun n n' h => by rw [Fin.ext h]
  have hs := s.isLt
  rw [slab_cons, slab_cons, slab_cons, slab_cons, slab_cons, slab_cons, slab_cons, slab_cons]
  split_ifs
  · exact (h7 r l).trans (e _ _ (by show 896 + l.val = 128 * s.val + l.val; omega))
  · exact (h6 r l).trans (e _ _ (by show 768 + l.val = 128 * s.val + l.val; omega))
  · exact (h5 r l).trans (e _ _ (by show 640 + l.val = 128 * s.val + l.val; omega))
  · exact (h4 r l).trans (e _ _ (by show 512 + l.val = 128 * s.val + l.val; omega))
  · exact (h3 r l).trans (e _ _ (by show 384 + l.val = 128 * s.val + l.val; omega))
  · exact (h2 r l).trans (e _ _ (by show 256 + l.val = 128 * s.val + l.val; omega))
  · exact (h1 r l).trans (e _ _ (by show 128 + l.val = 128 * s.val + l.val; omega))
  · exact (h0 r l).trans (e _ _ (by show 0 + l.val = 128 * s.val + l.val; omega))
  · omega

/-- The eight slices of the four parts' sum, stored as the eight slabs, hold the sum. -/
theorem canon_parts (x : FVec Ideal S512x1024 .bf16) (p : FVec Ideal S512x1024 .f32) (s1 : FVec Ideal S512x1 .f32) (wg : FVec Ideal S1024x512 .bf16)
    (wu : Vec Ideal S1x1024x512 .bf16) (wd : Vec Ideal S1x512x1024 .bf16) (r : Fin 512) (s : Fin 8) (l : Fin 128) (i0 i1 i2 i3 i4 i5 i6 i7) :
    View.canon (Val := Elt Ideal) (s := S512x8x128) (e := .f32) [⟨Rect.unit (s := S512x8x128) ![0, 7, 0] ![512, 1, 128] i7, k0_pay4 (k0_pay13 x p s1 wg wu wd)⟩,
        ⟨Rect.unit (s := S512x8x128) ![0, 6, 0] ![512, 1, 128] i6, k0_pay3 (k0_pay13 x p s1 wg wu wd)⟩,
        ⟨Rect.unit (s := S512x8x128) ![0, 5, 0] ![512, 1, 128] i5, k0_pay2 (k0_pay13 x p s1 wg wu wd)⟩,
        ⟨Rect.unit (s := S512x8x128) ![0, 4, 0] ![512, 1, 128] i4, k0_pay1 (k0_pay18 x p s1 wg wu wd)⟩,
        ⟨Rect.unit (s := S512x8x128) ![0, 3, 0] ![512, 1, 128] i3, k0_pay17 x p s1 wg wu wd⟩,
        ⟨Rect.unit (s := S512x8x128) ![0, 2, 0] ![512, 1, 128] i2, k0_pay16 x p s1 wg wu wd⟩,
        ⟨Rect.unit (s := S512x8x128) ![0, 1, 0] ![512, 1, 128] i1, k0_pay15 x p s1 wg wu wd⟩,
        ⟨Rect.unit (s := S512x8x128) ![0, 0, 0] ![512, 1, 128] i0, k0_pay14 x p s1 wg wu wd⟩] (ix3 r s l)
      = k0_pay13 x p s1 wg wu wd (ix2 r ⟨128 * s.val + l.val, by omega⟩) := by
  unfold k0_pay14 k0_pay15 k0_pay16 k0_pay17 k0_pay18
  generalize k0_pay13 x p s1 wg wu wd = tot
  refine canon_slabs tot _ _ _ _ _ _ _ _ i0 i1 i2 i3 i4 i5 i6 i7 ?_ ?_ ?_ ?_ ?_ ?_ ?_ ?_ r s l
  · intro r l; pointwise
  · intro r l; pointwise
  · intro r l; pointwise
  · intro r l; pointwise
  · intro r l; unfold k0_pay1; pointwise
  · intro r l; unfold k0_pay2; pointwise
  · intro r l; unfold k0_pay3; pointwise
  · intro r l; unfold k0_pay4; pointwise

/-! ## A group's four experts -/

/-- Loading one of the four matrices of a block reads that matrix. -/
theorem ld_one {n k : Nat} {e : EltTy} (x : Vec Ideal ⟨3, ![4, n, k]⟩ e) (o : Nat) (ho : o < 4) (inb) (r : Fin n) (l : Fin k) :
    View.ld x (Rect.unit (s := ⟨3, ![4, n, k]⟩) ![o, 0, 0] ![1, n, k] inb) (ix3 0 r l) = x (ix3 ⟨o, ho⟩ r l) :=
  View.ld_unit_apply_of _ _ _ _ _ _ (fun a => by
    match a with
    | ⟨0, _⟩ => show o = o + 0; omega
    | ⟨1, _⟩ => show r.val = 0 + r.val; omega
    | ⟨2, _⟩ => show l.val = 0 + l.val; omega)

section Cases

variable (c : Dev nD) (i : grid0.Coords) (arg3 : Memref sig .tc .vmem S512x8x128 .f32) (harg3 : arg3.IsWhole) (arg4 : Memref sig .tc .vmem S512x128 .f32) (harg4 : arg4.IsWhole)
  (arg5 : Memref sig .tc .vmem S4x1024x512 .bf16) (harg5 : arg5.IsWhole) (arg6 : Memref sig .tc .vmem S4x1024x512 .bf16) (harg6 : arg6.IsWhole)
  (arg7 : Memref sig .tc .vmem S4x512x1024 .bf16) (harg7 : arg7.IsWhole) (arg8 : Memref sig .tc .vmem S512x8x128 .f32) (harg8 : arg8.IsWhole) (T0 : IVec S36 32) (T1 : IVec S1 32)
  (x0 : Vec Ideal S512x8x128 .f32) (x1 : Vec Ideal S512x128 .f32) (x2 x3 : Vec Ideal S4x1024x512 .bf16) (x4 : Vec Ideal S4x512x1024 .bf16)

/-- A row of the tile's tokens. -/
def row (r : Fin 512) (d : Fin 1024) : EReal := x0 (ix3 r ⟨d.val / 128, by omega⟩ ⟨d.val % 128, Nat.mod_lt _ (by norm_num)⟩)

/-- The part of the group's expert `e` whose lane is `w`. -/
def one (e : Fin 4) (w : BitVec 32) (r : Fin 512) (n : Fin 1024) : EReal :=
  part (row x0 r) (fun d f => x2 (ix3 e d f)) (fun d f => x3 (ix3 e d f)) (fun f n => x4 (ix3 e f n)) (lane x1 w r) n

/-- The table's word for the tile, as the body loads it. -/
abbrev word : BitVec 32 :=
  View.ld (View.read (Elt Ideal) (View.whole main_arg0) T0) (Rect.unit (s := S36) (k0_off2 i) ![1] (k0_off2_inb i)) (Shape.Idx.first (numel1_S1.symm ▸ Nat.one_pos))

set_option backward.isDefEq.respectTransparency false in
set_option maxHeartbeats 1000000 in
/-- What a tile in use leaves: the four parts. -/
theorem out_A (h1 : k0_cond1 i (nv (F := Ideal) T1) = 1#1) (h2 : ¬(k0_cond2 i (nv (F := Ideal) T1) = 1#1)) (r : Fin 512) (s : Fin 8) (l : Fin 128) :
    out0_A_5 (F := Ideal) c i arg3 harg3 arg4 harg4 arg5 harg5 arg6 harg6 arg7 harg7 arg8 harg8 T0 T1 x0 x1 x2 x3 x4 h1 h2 (ix3 r s l)
      = one x0 x1 x2 x3 x4 0 (Scalar.addi (Scalar.addi (Scalar.muli (word i T0) 4#32) 4#32) 0#32) r ⟨128 * s.val + l.val, by omega⟩
        + one x0 x1 x2 x3 x4 1 (Scalar.addi (Scalar.addi (Scalar.muli (word i T0) 4#32) 4#32) 1#32) r ⟨128 * s.val + l.val, by omega⟩
        + one x0 x1 x2 x3 x4 2 (Scalar.addi (Scalar.addi (Scalar.muli (word i T0) 4#32) 4#32) 2#32) r ⟨128 * s.val + l.val, by omega⟩
        + one x0 x1 x2 x3 x4 3 (Scalar.addi (Scalar.addi (Scalar.muli (word i T0) 4#32) 4#32) 3#32) r ⟨128 * s.val + l.val, by omega⟩ := by
  frame_out
  simp only [View.read_rep]
  refine (canon_parts _ _ _ _ _ _ r s l _ _ _ _ _ _ _ _).trans ((parts_apply _ _ _ _ _ _ _ _ _ _ _ _ _ _ _ r _).trans ?_)
  have hX : (fun d => k0_pay6 (View.ld x0 (Rect.unit (s := S512x8x128) ![0, 0, 0] ![512, 1, 128] inb_S512x8x128_S512x1x128_0_0_0))
      (View.ld x0 (Rect.unit (s := S512x8x128) ![0, 1, 0] ![512, 1, 128] inb_S512x8x128_S512x1x128_0_1_0))
      (View.ld x0 (Rect.unit (s := S512x8x128) ![0, 2, 0] ![512, 1, 128] inb_S512x8x128_S512x1x128_0_2_0))
      (View.ld x0 (Rect.unit (s := S512x8x128) ![0, 3, 0] ![512, 1, 128] inb_S512x8x128_S512x1x128_0_3_0))
      (View.ld x0 (Rect.unit (s := S512x8x128) ![0, 4, 0] ![512, 1, 128] inb_S512x8x128_S512x1x128_0_4_0))
      (View.ld x0 (Rect.unit (s := S512x8x128) ![0, 5, 0] ![512, 1, 128] inb_S512x8x128_S512x1x128_0_5_0))
      (View.ld x0 (Rect.unit (s := S512x8x128) ![0, 6, 0] ![512, 1, 128] inb_S512x8x128_S512x1x128_0_6_0))
      (View.ld x0 (Rect.unit (s := S512x8x128) ![0, 7, 0] ![512, 1, 128] inb_S512x8x128_S512x1x128_0_7_0)) (ix2 r d)) = row x0 r :=
    funext fun d => pay6_slabs x0 _ _ _ _ _ _ _ _ r d
  have hw : ∀ (x : Vec Ideal S4x1024x512 .bf16) (o : Nat) (ho : o < 4) (inb),
      (fun (d : Fin 1024) (f : Fin 512) => (View.ld x (Rect.unit (s := S4x1024x512) ![o, 0, 0] ![1, 1024, 512] inb) (ix3 0 d f) : EReal)) = fun d f => x (ix3 ⟨o, ho⟩ d f) :=
    fun x o ho inb => funext fun d => funext fun f => ld_one x o ho inb d f
  have hd : ∀ (o : Nat) (ho : o < 4) (inb),
      (fun (f : Fin 512) (n : Fin 1024) => (View.ld x4 (Rect.unit (s := S4x512x1024) ![o, 0, 0] ![1, 512, 1024] inb) (ix3 0 f n) : EReal)) = fun f n => x4 (ix3 ⟨o, ho⟩ f n) :=
    fun o ho inb => funext fun f => funext fun n => ld_one x4 o ho inb f n
  have h4 : ∀ {α : Type} [Add α] {p q r s p' q' r' s' : α}, p = p' → q = q' → r = r' → s = s' → p + q + r + s = p' + q' + r' + s' := by
    intros; subst_vars; rfl
  have hp : ∀ {X X' : Fin 1024 → EReal} {a a' b b' : Fin 1024 → Fin 512 → EReal} {d d' : Fin 512 → Fin 1024 → EReal} {w : EReal} {n : Fin 1024}, X = X' → a = a' → b = b' → d = d' →
      part X a b d w n = part X' a' b' d' w n := by
    intros; subst_vars; rfl
  exact h4 (hp hX (hw x2 0 (by norm_num) _) (hw x3 0 (by norm_num) _) (hd 0 (by norm_num) _)) (hp hX (hw x2 1 (by norm_num) _) (hw x3 1 (by norm_num) _) (hd 1 (by norm_num) _))
    (hp hX (hw x2 2 (by norm_num) _) (hw x3 2 (by norm_num) _) (hd 2 (by norm_num) _)) (hp hX (hw x2 3 (by norm_num) _) (hw x3 3 (by norm_num) _) (hd 3 (by norm_num) _))

set_option backward.isDefEq.respectTransparency false in
/-- What a tile not in use leaves: zeros. -/
theorem out_B (h1 : ¬k0_cond1 i (nv (F := Ideal) T1) = 1#1) (h2 : k0_cond2 i (nv (F := Ideal) T1) = 1#1) (r : Fin 512) (s : Fin 8) (l : Fin 128) :
    out0_B_5 (F := Ideal) c i arg3 harg3 arg4 harg4 arg5 harg5 arg6 harg6 arg7 harg7 arg8 harg8 T0 T1 x0 x1 x2 x3 x4 h1 h2 (ix3 r s l) = (0 : EReal) := by
  frame_out
  unfold k0_pay5
  pointwise

end Cases

end Cert.Experts.Step

end
-- ==== Proof.ExpertsBlocks.lean ====
/-
  The blocks the experts' points work on, at an index, and the array their outputs make.
-/
module

public import proofs.«01_k».proof.Proof.ExpertsStep
public import Idealize.ShloMosaic.Lib.StableHlo.ReadAt
public import Idealize.ShloMosaic.Lib.Pipeline.Value

@[expose] public section

set_option maxRecDepth 16384

noncomputable section

namespace Cert.Experts.Blocks

open Cert.Experts Cert.Experts.Gen Cert.Experts.Hand Cert.Experts.Step Idealize.ShloMosaic Idealize.ShloMosaic.TcCoe Idealize.SL.Sem
open Idealize.ShloMosaic.Pipeline (Window)

variable (a : (pcfg0 (F := Ideal)).Adm) (m : (ℓ : Loc nD τ sig) → Buf (Elt Ideal) ℓ) (c : Dev nD)

/-! ## The points -/

/-- There are thirty-six points. -/
theorem lt_N (t : Fin (cfgA a).N) : t.val < 36 := (show t.val < grid0.N from t.isLt).trans_eq N_0

/-- A point's coordinate is its number. -/
theorem crd_val (t : Fin (cfgA a).N) : ((crd a t) 0).val = t.val :=
  (by decide : ∀ t : Fin grid0.N, (grid0.coords t 0).val = t.val) t

/-- A point's coordinate as a word. -/
theorem crd_word (t : Fin (cfgA a).N) : (BitVec.ofNat 32 ((crd a t) 0).val).toNat = t.val := by
  have := lt_N a t
  rw [crd_val, BitVec.toNat_ofNat, Nat.mod_eq_of_lt (by omega)]

/-- The table's word for a point, as the body loads it. -/
theorem word_eq (t : Fin (cfgA a).N) : word (crd a t) (T0 a) = T0 a (ix1 ⟨t.val, lt_N a t⟩) := by
  refine View.ld_unit_apply_of _ _ _ _ _ _ fun d => ?_
  match d with
  | ⟨0, _⟩ =>
    have h : ((Shape.Idx.first (numel1_S1.symm ▸ Nat.one_pos) : S1.Idx) (0 : Fin 1)).val < 1 := Fin.isLt _
    show t.val = (BitVec.ofNat 32 ((crd a t) 0).val).toNat + ((Shape.Idx.first (numel1_S1.symm ▸ Nat.one_pos) : S1.Idx) (0 : Fin 1)).val
    rw [crd_word]
    omega

/-- The count of the tiles in use. -/
theorem nv_eq (T : IVec S1 32) : nv (F := Ideal) T = T (ix1 0) :=
  congrArg T (funext fun d => by
    match d with
    | ⟨0, _⟩ => exact Subsingleton.elim (α := Fin 1) _ _)

/-- A tile in use fetches its own group's weights. -/
theorem group_used (t : Fin (cfgA a).N) (h : Used a t) : groupAt a.1 (crd a t) = T0 a (ix1 ⟨t.val, lt_N a t⟩) := by
  have h1 : Scalar.cmpi .slt (BitVec.ofNat 32 ((crd a t) 0).val) (a.1.at 1 (Rect.unit (s := S1) ![0] S1.size inb_S1_S1_0) numel1_S1) = 1#1 := by
    have h2 : (BitVec.ofNat 32 ((crd a t) 0).val).toInt < (a.1.at 1 (Rect.unit (s := S1) ![0] S1.size inb_S1_S1_0) numel1_S1 : BitVec 32).toInt := (cond1_iff _ _).1 h
    show BitVec.ofBool (decide ((BitVec.ofNat 32 ((crd a t) 0).val).toInt < (a.1.at 1 (Rect.unit (s := S1) ![0] S1.size inb_S1_S1_0) numel1_S1 : BitVec 32).toInt)) = 1#1
    rw [decide_eq_true h2]
    rfl
  unfold groupAt
  rw [h1]
  refine (congrArg (T0 a) (funext fun d => ?_) : T0 a _ = T0 a _)
  match d with
  | ⟨0, _⟩ =>
    refine Fin.ext ?_
    have h3 : ((Shape.Idx.first (numel1_S1.symm ▸ Nat.one_pos) : S1.Idx) (0 : Fin 1)).val < 1 := Fin.isLt _
    show (BitVec.ofNat 32 ((crd a t) 0).val).toNat + 1 * ((Shape.Idx.first (numel1_S1.symm ▸ Nat.one_pos) : S1.Idx) (0 : Fin 1)).val = t.val
    rw [crd_word]
    omega

/-! ## The input blocks -/

/-- A tile's tokens. -/
theorem tokens_blk (t : Fin (cfgA a).N) (r : Fin 512) (s : Fin 8) (l : Fin 128) :
    iblk a m c (0 : Fin 6) t (ix3 r s l) = m ((c : Thread nD τ).loc main_arg2) (ix3 ⟨512 * t.val + r.val, by have := lt_N a t; omega⟩ s l) := by
  rw [← V_kept m c main_arg2 (by decide) (by decide) (by decide)]
  refine (congrArg (V m c main_arg2) (funext fun d => Fin.ext ?_) : V m c main_arg2 ((((cfgA a).win (0 : Fin 6)).blk t).view.emb (ix3 r s l)) = _)
  match d with
  | ⟨0, _⟩ => show (BitVec.ofNat 32 ((crd a t) 0).val).toNat * 512 + 1 * r.val = 512 * t.val + r.val; rw [crd_word]; omega
  | ⟨1, _⟩ => show 0 * 8 + 1 * s.val = s.val; omega
  | ⟨2, _⟩ => show 0 * 128 + 1 * l.val = l.val; omega

/-- A tile's records. -/
theorem records_blk (t : Fin (cfgA a).N) (r : Fin 512) (l : Fin 128) :
    iblk a m c (1 : Fin 6) t (ix2 r l) = m ((c : Thread nD τ).loc main_arg3) (ix2 ⟨512 * t.val + r.val, by have := lt_N a t; omega⟩ l) := by
  rw [← V_kept m c main_arg3 (by decide) (by decide) (by decide)]
  refine (congrArg (V m c main_arg3) (funext fun d => Fin.ext ?_) : V m c main_arg3 ((((cfgA a).win (1 : Fin 6)).blk t).view.emb (ix2 r l)) = _)
  match d with
  | ⟨0, _⟩ => show (BitVec.ofNat 32 ((crd a t) 0).val).toNat * 512 + 1 * r.val = 512 * t.val + r.val; rw [crd_word]; omega
  | ⟨1, _⟩ => show 0 * 128 + 1 * l.val = l.val; omega

/-- The converted gate weights are the gate weights. -/
theorem gates_eq (i : S16x1024x512.Idx) : (V m c main_v0 i : EReal) = m ((c : Thread nD τ).loc main_arg4) i := by
  unfold V
  after_reads_at

/-- The converted up weights are the up weights. -/
theorem ups_eq (i : S16x1024x512.Idx) : (V m c main_v1 i : EReal) = m ((c : Thread nD τ).loc main_arg5) i := by
  unfold V
  after_reads_at

/-- The converted down weights are the down weights. -/
theorem downs_eq (i : S16x512x1024.Idx) : (V m c main_v2 i : EReal) = m ((c : Thread nD τ).loc main_arg6) i := by
  unfold V
  after_reads_at

section Weights

variable (t : Fin (cfgA a).N) (g : ℕ) (hg : (groupAt a.1 (crd a t)).toNat = g) (hlt : g < 4) (e : Fin 4)

include hg

/-- The fetched group's gate weights. -/
theorem gates_blk (d : Fin 1024) (f : Fin 512) :
    (iblk a m c (2 : Fin 6) t (ix3 e d f) : EReal) = m ((c : Thread nD τ).loc main_arg4) (ix3 ⟨4 * g + e.val, by omega⟩ d f) := by
  refine Eq.trans (congrArg (V m c main_v0) (funext fun x => Fin.ext ?_) : V m c main_v0 ((((cfgA a).win (2 : Fin 6)).blk t).view.emb (ix3 e d f)) = V m c main_v0 (ix3 ⟨4 * g + e.val, by omega⟩ d f)) (gates_eq m c _)
  match x with
  | ⟨0, _⟩ => show (groupAt a.1 (crd a t)).toNat * 4 + 1 * e.val = 4 * g + e.val; omega
  | ⟨1, _⟩ => show 0 * 1024 + 1 * d.val = d.val; omega
  | ⟨2, _⟩ => show 0 * 512 + 1 * f.val = f.val; omega

/-- The fetched group's up weights. -/
theorem ups_blk (d : Fin 1024) (f : Fin 512) :
    (iblk a m c (3 : Fin 6) t (ix3 e d f) : EReal) = m ((c : Thread nD τ).loc main_arg5) (ix3 ⟨4 * g + e.val, by omega⟩ d f) := by
  refine Eq.trans (congrArg (V m c main_v1) (funext fun x => Fin.ext ?_) : V m c main_v1 ((((cfgA a).win (3 : Fin 6)).blk t).view.emb (ix3 e d f)) = V m c main_v1 (ix3 ⟨4 * g + e.val, by omega⟩ d f)) (ups_eq m c _)
  match x with
  | ⟨0, _⟩ => show (groupAt a.1 (crd a t)).toNat * 4 + 1 * e.val = 4 * g + e.val; omega
  | ⟨1, _⟩ => show 0 * 1024 + 1 * d.val = d.val; omega
  | ⟨2, _⟩ => show 0 * 512 + 1 * f.val = f.val; omega

/-- The fetched group's down weights. -/
theorem downs_blk (f : Fin 512) (n : Fin 1024) :
    (iblk a m c (4 : Fin 6) t (ix3 e f n) : EReal) = m ((c : Thread nD τ).loc main_arg6) (ix3 ⟨4 * g + e.val, by omega⟩ f n) := by
  refine Eq.trans (congrArg (V m c main_v2) (funext fun x => Fin.ext ?_) : V m c main_v2 ((((cfgA a).win (4 : Fin 6)).blk t).view.emb (ix3 e f n)) = V m c main_v2 (ix3 ⟨4 * g + e.val, by omega⟩ f n)) (downs_eq m c _)
  match x with
  | ⟨0, _⟩ => show (groupAt a.1 (crd a t)).toNat * 4 + 1 * e.val = 4 * g + e.val; omega
  | ⟨1, _⟩ => show 0 * 512 + 1 * f.val = f.val; omega
  | ⟨2, _⟩ => show 0 * 1024 + 1 * n.val = n.val; omega

end Weights

/-! ## The result's array -/

/-- What the points leave in the result. -/
def result : Vec Ideal S18432x8x128 .f32 := fun y =>
  outAt a m c ⟨(y 0).val / 512, (by have h : (y 0).val < 18432 := (y 0).isLt; show _ < grid0.N; rw [N_0]; omega)⟩
    (ix3 ⟨(y 0).val % 512, Nat.mod_lt _ (by norm_num)⟩ (y 1) (y 2))

/-- Every point writes its block back. -/
theorem flush_all (t : Fin (cfgA a).N) : ((cfgA a).win (5 : Fin 6)).flush t = true :=
  (by decide : ∀ t : Fin grid0.N, Window.flushOf grid0 true cc0_transform_5 t = true) t

/-- What point `t` writes back is its block of the result. -/
theorem flushed_eq (t : Fin (cfgA a).N) : (dats a m 0 c).flushed (5 : Fin 6) t = (((cfgA a).win (5 : Fin 6)).blk t).view.read (Elt Ideal) (result a m c) := by
  show ((cfgA a).win (5 : Fin 6)).cut (crd a t) ((dats a m 0 c).after (5 : Fin 6) t) = _
  rw [after0_5]
  funext y
  have hy : (y 0).val < 512 := (y 0).isLt
  have h0 : ((((cfgA a).win (5 : Fin 6)).blk t).view.emb y 0).val = (BitVec.ofNat 32 ((crd a t) 0).val).toNat * 512 + 1 * (y 0).val := rfl
  have h1 : ((((cfgA a).win (5 : Fin 6)).blk t).view.emb y 1).val = 0 * 8 + 1 * (y 1).val := rfl
  have h2 : ((((cfgA a).win (5 : Fin 6)).blk t).view.emb y 2).val = 0 * 128 + 1 * (y 2).val := rfl
  rw [crd_word] at h0
  have e : ∀ (t' : Fin (cfgA a).N) (z z' : S512x8x128.Idx), t = t' → z = z' → outAt a m c t z = outAt a m c t' z' := by
    intro _ _ _ h h'; rw [h, h']
  refine (e _ (((cfgA a).win (5 : Fin 6)).xinj (crd a t) y) _ (Fin.ext ?_) (funext fun d => Fin.ext ?_) : outAt a m c t (((cfgA a).win (5 : Fin 6)).xinj (crd a t) y) = result a m c ((((cfgA a).win (5 : Fin 6)).blk t).view.emb y))
  · show t.val = ((((cfgA a).win (5 : Fin 6)).blk t).view.emb y 0).val / 512
    omega
  · match d with
    | ⟨0, _⟩ => show (y 0).val = ((((cfgA a).win (5 : Fin 6)).blk t).view.emb y 0).val % 512; omega
    | ⟨1, _⟩ => show (y 1).val = ((((cfgA a).win (5 : Fin 6)).blk t).view.emb y 1).val; omega
    | ⟨2, _⟩ => show (y 2).val = ((((cfgA a).win (5 : Fin 6)).blk t).view.emb y 2).val; omega

/-- Every index of the result is in some point's block. -/
theorem covered (y : S18432x8x128.Idx) : ∃ t : Fin (cfgA a).N, ((cfgA a).win (5 : Fin 6)).flush t = true ∧ y ∈ (((cfgA a).win (5 : Fin 6)).blk t).view.set := by
  have hy0 : (y 0).val < 18432 := (y 0).isLt
  have hy1 : (y 1).val < 8 := (y 1).isLt
  have hy2 : (y 2).val < 128 := (y 2).isLt
  obtain ⟨t, ht⟩ : ∃ t : Fin (cfgA a).N, t.val = (y 0).val / 512 := ⟨⟨(y 0).val / 512, (by show _ < grid0.N; rw [N_0]; omega)⟩, rfl⟩
  refine ⟨t, flush_all a t, ?_⟩
  have hw := crd_word a t
  show y ∈ ((View.whole main_v3).slice (((cfgA a).win (5 : Fin 6)).rect t)).set
  rw [View.set_slice_whole, Rect.mem_set_unit]
  intro d
  match d with
  | ⟨0, _⟩ =>
    show (BitVec.ofNat 32 ((crd a t) 0).val).toNat * 512 ≤ (y 0).val ∧ (y 0).val < (BitVec.ofNat 32 ((crd a t) 0).val).toNat * 512 + 512
    omega
  | ⟨1, _⟩ => show 0 * 8 ≤ (y 1).val ∧ (y 1).val < 0 * 8 + 8; omega
  | ⟨2, _⟩ => show 0 * 128 ≤ (y 2).val ∧ (y 2).val < 0 * 128 + 128; omega

/-- The result's array after the run. -/
theorem final : (dats a m 0 c).arrAt (5 : Fin 6) (cfgA a).N = result a m c :=
  (dats a m 0 c).arrAt_eq_of_cover (5 : Fin 6) _ (fun t _ => flushed_eq a m c t) (covered a)

end Cert.Experts.Blocks

end
-- ==== Proof.ExpertsReference.lean ====
/-
  What the experts' reference leaves at an index: the sum over the sixteen experts of each one's gated projections of a
  token, weighted by its combine weight.
-/
module

public import proofs.«01_k».proof.Proof.Gen.ExpertsReferenceIdeal.Run
public import Idealize.ShloMosaic.Lib.Pointwise
public import Idealize.ShloMosaic.Lib.TwoAxisContraction

@[expose] public section

set_option maxRecDepth 16384

noncomputable section

namespace Cert.ExpertsReferenceIdeal.Read

open Cert.ExpertsReferenceIdeal Cert.ExpertsReferenceIdeal.Gen Idealize.ShloMosaic Idealize.ShloMosaic.TcCoe Idealize.SL.Sem

/-- Every expert's projection of every token. -/
def proj (w : FVec Ideal S16x1024x512 .f32) (xs : FVec Ideal S18432x8x128 .f32) : FVec Ideal S16x18432x512 .f32 :=
  transpose S16x18432x512 [0, 2, 1] (Host.dotGeneral dot_S16x1024x512_S18432x1024_S16x512x18432_1_1_02_0_n_n none w (shapeCast _ xs shapeCasts_S18432x8x128_S18432x1024)) transposes_S16x512x18432_S16x18432x512_0_2_1

/-- A projection times its logistic. -/
def gated (g : FVec Ideal S16x18432x512 .f32) : FVec Ideal S16x18432x512 .f32 :=
  mulf g (Host.divf (broadcastInDim S16x18432x512 ![] bcast_S_S16x18432x512 (constant S_ .f32 0x3F800000#32)) (addf (broadcastInDim S16x18432x512 ![] bcast_S_S16x18432x512 (constant S_ .f32 0x3F800000#32)) (Host.exp (Host.negf g))))

/-- Each token's weight in each expert, zero outside its tile's group. -/
def comb (tg : IVec S36 32) (n : IVec S1 32) (infos : FVec Ideal S18432x128 .f32) : FVec Ideal S16x18432 .f32 :=
  select (andi (cmpi .eq (broadcastInDim S16x18432 ![0, 1] bcast_S16x1_S16x18432_0_1 (broadcastInDim S16x1 ![0] bcast_S16_S16x1_0 (shapeCast _ (broadcastInDim S4x4 ![0] bcast_S4_S4x4_0 (iotaInDim S4 32 0)) shapeCasts_S4x4_S16))) (broadcastInDim S16x18432 ![0, 1] bcast_S1x18432_S16x18432_0_1 (broadcastInDim S1x18432 ![1] bcast_S18432_S1x18432_1 (shapeCast _ (broadcastInDim S36x512 ![0] bcast_S36_S36x512_0 tg) shapeCasts_S36x512_S18432)))) (broadcastInDim S16x18432 ![0, 1] bcast_S1x18432_S16x18432_0_1 (broadcastInDim S1x18432 ![1] bcast_S18432_S1x18432_1 (cmpi .slt (shapeCast _ (broadcastInDim S36x512 ![0] bcast_S36_S36x512_0 (iotaInDim S36 32 0)) shapeCasts_S36x512_S18432) (broadcastInDim S18432 ![] bcast_S_S18432 (shapeCast _ n shapeCasts_S1_S_)))))) (transpose S16x18432 [1, 0] (extractStridedSlice S18432x16 ![0, 4] infos slices_S18432x128_S18432x16_0_4) transposes_S18432x16_S16x18432_1_0) (broadcastInDim S16x18432 ![] bcast_S_S16x18432 (id (constant S_ .f32 0x00000000#32)))

/-- The weighted experts' outputs, summed. -/
def summed (a u : FVec Ideal S16x18432x512 .f32) (w : FVec Ideal S16x18432 .f32) (wd : FVec Ideal S16x512x1024 .f32) : FVec Ideal S18432x8x128 .f32 :=
  shapeCast _ (Host.dotGeneral dot_S16x18432x512_S16x512x1024_S18432x1024_02_01_1_2_n_n none (mulf (mulf a u) (broadcastInDim S16x18432x512 ![0, 1, 2] bcast_S16x18432x1_S16x18432x512_0_1_2 (broadcastInDim S16x18432x1 ![0, 1] bcast_S16x18432_S16x18432x1_0_1 w))) wd) shapeCasts_S18432x1024_S18432x8x128

/-- A projection at an index. -/
theorem proj_apply (w : FVec Ideal S16x1024x512 .f32) (xs : FVec Ideal S18432x8x128 .f32) (e : Fin 16) (r : Fin 18432) (f : Fin 512) :
    proj w xs (ix3 e r f) = ∑ d : Fin 1024, (w (ix3 e d f) : EReal) * xs (ix3 r ⟨d.val / 128, by omega⟩ ⟨d.val % 128, Nat.mod_lt _ (by norm_num)⟩) := by
  unfold proj
  pointwise

/-- A gated projection at an index. -/
theorem gated_apply (g : FVec Ideal S16x18432x512 .f32) (e : Fin 16) (r : Fin 18432) (f : Fin 512) :
    gated g (ix3 e r f) = (g (ix3 e r f) : EReal) * Ideal.logistic (g (ix3 e r f)) := by
  unfold gated
  pointwise
  rfl

/-- A combine weight at an index. -/
theorem comb_apply (tg : IVec S36 32) (n : IVec S1 32) (infos : FVec Ideal S18432x128 .f32) (e : Fin 16) (r : Fin 18432) :
    comb tg n infos (ix2 e r) = (Scalar.select (IntOp.andi (IntOp.cmpi .eq (BitVec.ofNat 32 (e.val / 4)) (tg (ix1 ⟨r.val / 512, by omega⟩)))
      (IntOp.cmpi .slt (BitVec.ofNat 32 (r.val / 512)) (n (ix1 0)))) (infos (ix2 r ⟨4 + e.val, by omega⟩) : EReal) 0 : EReal) := by
  unfold comb
  pointwise
  simp only [id]
  pointwise

/-- The summed outputs at an index. -/
theorem summed_apply (a u : FVec Ideal S16x18432x512 .f32) (w : FVec Ideal S16x18432 .f32) (wd : FVec Ideal S16x512x1024 .f32) (r : Fin 18432) (h : Fin 8) (l : Fin 128) :
    summed a u w wd (ix3 r h l) = ∑ e : Fin 16, ∑ f : Fin 512, (a (ix3 e r f) : EReal) * u (ix3 e r f) * w (ix2 e r) * wd (ix3 e f ⟨128 * h.val + l.val, by omega⟩) := by
  have e : ∀ (q q' : Fin 1024), q.val = q'.val → q = q' := fun _ _ h => Fin.ext h
  unfold summed
  pointwise
  rw [e ⟨h.val * 128 + l.val, by omega⟩ ⟨128 * h.val + l.val, by omega⟩ (by show h.val * 128 + l.val = 128 * h.val + l.val; omega)]

/-- The reference's result: every execution ends with the summed outputs, the arguments and the counters kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = summed (gated (proj (m ((c.tc : Thread nD τ).loc main_arg4)) (m ((c.tc : Thread nD τ).loc main_arg2))))
        (proj (m ((c.tc : Thread nD τ).loc main_arg5)) (m ((c.tc : Thread nD τ).loc main_arg2)))
        (comb (m ((c.tc : Thread nD τ).loc main_arg0)) (m ((c.tc : Thread nD τ).loc main_arg1)) (m ((c.tc : Thread nD τ).loc main_arg3))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ExpertsReferenceIdeal.Value.run m ρ

end Cert.ExpertsReferenceIdeal.Read

end
-- ==== Proof.ExpertsEqual.lean ====
/-
  The experts' result and the reference's at an index: the same sum over the sixteen experts, of which the kernel adds
  the four of the tile's group.
-/
module

public import proofs.«01_k».proof.Proof.ExpertsBlocks
public import proofs.«01_k».proof.Proof.ExpertsReference
public import Idealize.ShloMosaic.Lib.WordCmp

@[expose] public section

set_option maxRecDepth 16384

noncomputable section

namespace Cert.Experts.Equal

open Cert.Experts Cert.Experts.Gen Cert.Experts.Hand Cert.Experts.Step Cert.Experts.Blocks Idealize.ShloMosaic Idealize.ShloMosaic.TcCoe Idealize.SL.Sem
open Cert.ExpertsReferenceIdeal.Read (proj gated comb summed proj_apply gated_apply comb_apply summed_apply)

/-! ## Sums -/

/-- A part whose weight is zero is zero. -/
theorem part_zero (X : Fin 1024 → EReal) (wg wu : Fin 1024 → Fin 512 → EReal) (wd : Fin 512 → Fin 1024 → EReal) (n : Fin 1024) : part X wg wu wd 0 n = 0 := by
  unfold part act
  simp only [mul_zero, zero_mul, Finset.sum_const_zero]

/-- A sum over sixteen that vanishes outside one group of four is that group's sum. -/
theorem sum_group (G : Fin 16 → EReal) (g : ℕ) (hg : g < 4) (h : ∀ E : Fin 16, E.val / 4 ≠ g → G E = 0) :
    ∑ E : Fin 16, G E = G ⟨4 * g + 0, by omega⟩ + G ⟨4 * g + 1, by omega⟩ + G ⟨4 * g + 2, by omega⟩ + G ⟨4 * g + 3, by omega⟩ := by
  have e : ∑ E : Fin 16, G E = ∑ p : Fin 4 × Fin 4, G (finProdFinEquiv p) := (Equiv.sum_comp (finProdFinEquiv (m := 4) (n := 4)) G).symm
  have v : ∀ p : Fin 4 × Fin 4, (finProdFinEquiv p : Fin 16).val = p.2.val + 4 * p.1.val := fun p => rfl
  rw [e, Fintype.sum_prod_type, Finset.sum_eq_single (⟨g, hg⟩ : Fin 4) (fun q _ hq => Finset.sum_eq_zero fun p _ => h _ (fun hh => hq (Fin.ext (by
    have := v (q, p)
    show q.val = g
    simp only at this
    omega)))) (fun hn => absurd (Finset.mem_univ _) hn), Fin.sum_univ_four]
  have k : ∀ (E E' : Fin 16), E.val = E'.val → G E = G E' := fun E E' hE => by rw [Fin.ext hE]
  refine congrArg₂ (· + ·) (congrArg₂ (· + ·) (congrArg₂ (· + ·) (k _ _ ?_) (k _ _ ?_)) (k _ _ ?_)) (k _ _ ?_) <;> rw [v] <;> simp <;> omega

/-- The lane a word names is the record's entry there. -/
theorem lane_eq (v : Vec Ideal S512x128 .f32) (w : BitVec 32) (r : Fin 512) (k : Fin 128) (hw : w = BitVec.ofNat 32 k.val) : lane v w r = v (ix2 r k) := by
  unfold lane
  rw [Finset.sum_eq_single k]
  · rw [hw, WordCmp.cmpi_eq_eq, decide_eq_true rfl]
    rfl
  · intro l _ hl
    have hne : ¬BitVec.ofNat 32 l.val = w := by
      rw [hw, WordCmp.ofNat_eq_ofNat_iff (by have := l.isLt; omega) (by have := k.isLt; omega)]
      exact fun h => hl (Fin.ext h)
    rw [WordCmp.cmpi_eq_eq, decide_eq_false hne]
    rfl
  · exact fun h => absurd (Finset.mem_univ _) h

/-- The word of a group's lane. -/
theorem lane_word (w : BitVec 32) (g e : ℕ) (hw : w.toNat = g) (hg : g < 4) (he : e < 4) :
    Scalar.addi (Scalar.addi (Scalar.muli w 4#32) 4#32) (BitVec.ofNat 32 e) = BitVec.ofNat 32 (4 + (4 * g + e)) := by
  refine BitVec.eq_of_toNat_eq ?_
  show ((w * 4#32 + 4#32) + BitVec.ofNat 32 e).toNat = _
  rw [BitVec.toNat_add, BitVec.toNat_add, BitVec.toNat_mul, BitVec.toNat_ofNat, BitVec.toNat_ofNat, BitVec.toNat_ofNat, hw]
  omega

/-! ## The reference -/

section Values

variable (tg : IVec S36 32) (n : IVec S1 32) (xs : FVec Ideal S18432x8x128 .f32) (infos : FVec Ideal S18432x128 .f32)
  (wg wu : FVec Ideal S16x1024x512 .f32) (wd : FVec Ideal S16x512x1024 .f32)

/-- One expert's part of a token's result. -/
def share (s : EReal) (R : Fin 18432) (E : Fin 16) (k : Fin 1024) : EReal :=
  part (fun d => xs (ix3 R ⟨d.val / 128, by omega⟩ ⟨d.val % 128, Nat.mod_lt _ (by norm_num)⟩)) (fun d f => wg (ix3 E d f)) (fun d f => wu (ix3 E d f)) (fun f n => wd (ix3 E f n)) s k

/-- The reference at an index. -/
theorem reference_at (R : Fin 18432) (h : Fin 8) (l : Fin 128) :
    (summed (gated (proj wg xs)) (proj wu xs) (comb tg n infos) wd (ix3 R h l) : EReal)
      = ∑ E : Fin 16, share xs wg wu wd (comb tg n infos (ix2 E R)) R E ⟨128 * h.val + l.val, by omega⟩ := by
  have c : ∀ (w : FVec Ideal S16x1024x512 .f32) (E : Fin 16) (f : Fin 512), (proj w xs (ix3 E R f) : EReal)
      = gate (fun d => xs (ix3 R ⟨d.val / 128, by omega⟩ ⟨d.val % 128, Nat.mod_lt _ (by norm_num)⟩)) (fun d f => w (ix3 E d f)) f := fun w E f =>
    (proj_apply w xs E R f).trans (Finset.sum_congr rfl fun d _ => mul_comm _ _)
  rw [summed_apply]
  refine Finset.sum_congr rfl fun E _ => ?_
  unfold share part act
  refine Finset.sum_congr rfl fun f _ => ?_
  rw [gated_apply, c, c]

/-- The combine weight of an expert of the tile's group, in a tile in use. -/
theorem comb_in (E : Fin 16) (R : Fin 18432) (hg : (tg (ix1 ⟨R.val / 512, by omega⟩)).toNat = E.val / 4) (hn : ((R.val / 512 : ℕ) : Int) < (n (ix1 0)).toInt) :
    (comb tg n infos (ix2 E R) : EReal) = infos (ix2 R ⟨4 + E.val, by omega⟩) := by
  have e : BitVec.ofNat 32 (E.val / 4) = tg (ix1 ⟨R.val / 512, by omega⟩) := BitVec.eq_of_toNat_eq (by rw [BitVec.toNat_ofNat, hg]; exact Nat.mod_eq_of_lt (by omega))
  have i : (BitVec.ofNat 32 (R.val / 512)).toInt = ((R.val / 512 : ℕ) : Int) := WordCmp.toInt_ofNat_of_lt (by have := R.isLt; norm_num; omega)
  rw [comb_apply, WordCmp.cmpi_eq_eq, WordCmp.cmpi_slt_eq, decide_eq_true e, i, decide_eq_true hn]
  rfl

/-- The combine weight of an expert of another group. -/
theorem comb_out (E : Fin 16) (R : Fin 18432) (hg : (tg (ix1 ⟨R.val / 512, by omega⟩)).toNat ≠ E.val / 4) :
    (comb tg n infos (ix2 E R) : EReal) = 0 := by
  have e : ¬BitVec.ofNat 32 (E.val / 4) = tg (ix1 ⟨R.val / 512, by omega⟩) := fun h => hg (by rw [← h, BitVec.toNat_ofNat]; exact Nat.mod_eq_of_lt (by omega))
  have z : ∀ b : BitVec 1, IntOp.andi (BitVec.ofBool false) b = 0#1 := by decide
  rw [comb_apply, WordCmp.cmpi_eq_eq, decide_eq_false e, z]
  rfl

/-- The combine weights of a tile not in use. -/
theorem comb_unused (E : Fin 16) (R : Fin 18432) (hn : ¬((R.val / 512 : ℕ) : Int) < (n (ix1 0)).toInt) :
    (comb tg n infos (ix2 E R) : EReal) = 0 := by
  have i : (BitVec.ofNat 32 (R.val / 512)).toInt = ((R.val / 512 : ℕ) : Int) := WordCmp.toInt_ofNat_of_lt (by have := R.isLt; norm_num; omega)
  have z : ∀ b : BitVec 1, IntOp.andi b (BitVec.ofBool false) = 0#1 := by decide
  rw [comb_apply, WordCmp.cmpi_slt_eq, i, decide_eq_false hn, z]
  rfl

end Values

/-! ## The kernel -/

section Kernel

variable (a : (pcfg0 (F := Ideal)).Adm) (m : (ℓ : Loc nD τ sig) → Buf (Elt Ideal) ℓ) (c : Dev nD)

/-- A tile is in use exactly when its number is below the count. -/
theorem used_iff (t : Fin (cfgA a).N) : Used a t ↔ ((t.val : ℕ) : Int) < (T1 a (ix1 0) : BitVec 32).toInt := by
  have h := lt_N a t
  have i : (BitVec.ofNat 32 t.val).toInt = ((t.val : ℕ) : Int) := WordCmp.toInt_ofNat_of_lt (by norm_num; omega)
  show k0_cond1 (crd a t) (nv (F := Ideal) (T1 a)) = 1#1 ↔ _
  rw [cond1_iff, crd_val, i, nv_eq]

/-- One expert of the group at a tile in use, as the reference has it. -/
theorem one_eq (t : Fin (cfgA a).N) (hu : Used a t) (g : ℕ) (hg : g < 4) (hw : (T0 a (ix1 ⟨t.val, lt_N a t⟩) : BitVec 32).toNat = g) (e : Fin 4) (b : BitVec 32)
    (hb : b = BitVec.ofNat 32 e.val) (r : Fin 512) (k : Fin 1024) :
    one (iblk a m c (0 : Fin 6) t) (iblk a m c (1 : Fin 6) t) (iblk a m c (2 : Fin 6) t) (iblk a m c (3 : Fin 6) t) (iblk a m c (4 : Fin 6) t) e
        (Scalar.addi (Scalar.addi (Scalar.muli (word (crd a t) (T0 a)) 4#32) 4#32) b) r k
      = share (m ((c : Thread nD τ).loc main_arg2)) (m ((c : Thread nD τ).loc main_arg4)) (m ((c : Thread nD τ).loc main_arg5)) (m ((c : Thread nD τ).loc main_arg6))
          (comb (T0 a) (T1 a) (m ((c : Thread nD τ).loc main_arg3)) (ix2 ⟨4 * g + e.val, by omega⟩ ⟨512 * t.val + r.val, by have := lt_N a t; omega⟩))
          ⟨512 * t.val + r.val, by have := lt_N a t; omega⟩ ⟨4 * g + e.val, by omega⟩ k := by
  have hN := lt_N a t
  have hG : (groupAt a.1 (crd a t)).toNat = g := by rw [group_used a t hu]; exact hw
  have hd : (512 * t.val + r.val) / 512 = t.val := by omega
  have hs : lane (iblk a m c (1 : Fin 6) t) (Scalar.addi (Scalar.addi (Scalar.muli (word (crd a t) (T0 a)) 4#32) 4#32) b) r
      = comb (T0 a) (T1 a) (m ((c : Thread nD τ).loc main_arg3)) (ix2 ⟨4 * g + e.val, by omega⟩ ⟨512 * t.val + r.val, by omega⟩) := by
    rw [lane_eq _ _ r ⟨4 + (4 * g + e.val), by omega⟩ (by rw [hb]; exact lane_word _ g e.val (by rw [word_eq]; exact hw) hg e.isLt), records_blk]
    refine (comb_in (T0 a) (T1 a) (m ((c : Thread nD τ).loc main_arg3)) ⟨4 * g + e.val, by omega⟩ ⟨512 * t.val + r.val, by omega⟩ ?_ ?_).symm
    · have : (⟨(512 * t.val + r.val) / 512, by omega⟩ : Fin 36) = ⟨t.val, hN⟩ := Fin.ext hd
      show (T0 a (ix1 ⟨(512 * t.val + r.val) / 512, _⟩) : BitVec 32).toNat = (4 * g + e.val) / 4
      rw [this, hw]
      omega
    · show (((512 * t.val + r.val) / 512 : ℕ) : Int) < _
      rw [hd]
      exact (used_iff a t).1 hu
  have hp : ∀ {X X' : Fin 1024 → EReal} {p p' q q' : Fin 1024 → Fin 512 → EReal} {d d' : Fin 512 → Fin 1024 → EReal} {w w' : EReal}, X = X' → p = p' → q = q' → d = d' → w = w' →
      part X p q d w k = part X' p' q' d' w' k := by
    intros; subst_vars; rfl
  unfold one share
  exact hp (funext fun d => tokens_blk a m c t r _ _) (funext fun d => funext fun f => gates_blk a m c t g hG hg e d f) (funext fun d => funext fun f => ups_blk a m c t g hG hg e d f)
    (funext fun f => funext fun n => downs_blk a m c t g hG hg e f n) hs

/-- The kernel at an index, tile by tile: the reference's sum. -/
theorem tile_at (hlt : ∀ x, (T0 a x : BitVec 32).toNat < 4) (t : Fin (cfgA a).N) (r : Fin 512) (h : Fin 8) (l : Fin 128) :
    (outAt a m c t (ix3 r h l) : EReal)
      = ∑ E : Fin 16, share (m ((c : Thread nD τ).loc main_arg2)) (m ((c : Thread nD τ).loc main_arg4)) (m ((c : Thread nD τ).loc main_arg5)) (m ((c : Thread nD τ).loc main_arg6))
          (comb (T0 a) (T1 a) (m ((c : Thread nD τ).loc main_arg3)) (ix2 E ⟨512 * t.val + r.val, by have := lt_N a t; omega⟩))
          ⟨512 * t.val + r.val, by have := lt_N a t; omega⟩ E ⟨128 * h.val + l.val, by omega⟩ := by
  have hN := lt_N a t
  have hd : (512 * t.val + r.val) / 512 = t.val := by omega
  by_cases hu : Used a t
  · obtain ⟨g, hg⟩ : ∃ g, (T0 a (ix1 ⟨t.val, hN⟩) : BitVec 32).toNat = g := ⟨_, rfl⟩
    have hg4 : g < 4 := hg ▸ hlt _
    rw [sum_group _ g hg4 (fun E hE => by
      rw [comb_out _ _ _ E _ (by
        have : (⟨(512 * t.val + r.val) / 512, by omega⟩ : Fin 36) = ⟨t.val, hN⟩ := Fin.ext hd
        show (T0 a (ix1 ⟨(512 * t.val + r.val) / 512, _⟩) : BitVec 32).toNat ≠ E.val / 4
        rw [this, hg]
        exact fun h => hE h.symm)]
      exact part_zero _ _ _ _ _)]
    rw [show outAt a m c t = _ from dif_pos hu, out_A]
    exact congrArg₂ (· + ·) (congrArg₂ (· + ·) (congrArg₂ (· + ·) (one_eq a m c t hu g hg4 hg 0 _ rfl r _) (one_eq a m c t hu g hg4 hg 1 _ rfl r _))
      (one_eq a m c t hu g hg4 hg 2 _ rfl r _)) (one_eq a m c t hu g hg4 hg 3 _ rfl r _)
  · rw [show outAt a m c t = _ from dif_neg hu, out_B]
    refine (Finset.sum_eq_zero fun E _ => ?_).symm
    rw [comb_unused _ _ _ E _ (by
      show ¬(((512 * t.val + r.val) / 512 : ℕ) : Int) < _
      rw [hd]
      exact fun h => hu ((used_iff a t).2 h))]
    exact part_zero _ _ _ _ _

/-- The kernel's result is the reference's. -/
theorem result_eq (hlt : ∀ x, (T0 a x : BitVec 32).toNat < 4) :
    result a m c = summed (gated (proj (m ((c : Thread nD τ).loc main_arg4)) (m ((c : Thread nD τ).loc main_arg2)))) (proj (m ((c : Thread nD τ).loc main_arg5)) (m ((c : Thread nD τ).loc main_arg2)))
      (comb (T0 a) (T1 a) (m ((c : Thread nD τ).loc main_arg3))) (m ((c : Thread nD τ).loc main_arg6)) := by
  funext y
  have hy0 : (y 0).val < 18432 := (y 0).isLt
  have hy : y = ix3 (y 0) (y 1) (y 2) := funext fun d => by
    match d with
    | ⟨0, _⟩ => rfl
    | ⟨1, _⟩ => rfl
    | ⟨2, _⟩ => rfl
  have hR : ∀ R : Fin 18432, R.val = 512 * ((y 0).val / 512) + (y 0).val % 512 → R = y 0 := fun R h => Fin.ext (by rw [h]; exact Nat.div_add_mod _ _)
  refine (tile_at a m c hlt _ _ (y 1) (y 2)).trans ?_
  rw [hR ⟨512 * ((y 0).val / 512) + (y 0).val % 512, by omega⟩ rfl]
  exact (reference_at (T0 a) (T1 a) _ _ _ _ _ (y 0) (y 1) (y 2)).symm.trans (congrArg _ hy.symm)

end Kernel

end Cert.Experts.Equal

end
-- ==== Proof.AxialStep.lean ====
/-
  What one grid point of the axial attention computes, read at an index over the extended reals: the scores of a block of
  keys, the running maximum and the rescaled accumulator of 128 query rows, and the quotient the last block of keys writes.
-/
module

public import proofs.«01_k».proof.Proof.Gen.AxialIdeal.Skeleton
public import proofs.«01_k».proof.Proof.Softmax
public import Idealize.ShloMosaic.Lib.Pointwise
public import Idealize.ShloMosaic.Lib.Pipeline.Value

@[expose] public section

set_option maxRecDepth 16384

noncomputable section

namespace Cert.AxialIdeal.Step

open Cert.AxialIdeal Cert.AxialIdeal.Gen Cert.Softmax Idealize.ShloMosaic

/-- The word 0xFF800000 is minus infinity. -/
theorem ofBits_neg_inf : Ideal.ofBits .f32 0xFF800000#32 = ⊥ := by
  simp [Ideal.ofBits, Ideal.ieee]

/-- Sixteen copies of a 128-lane block side by side, read at column j: the block at column j mod 128. -/
theorem tile16_apply (x : FVec Ideal S128x128 .f32) (h) (r : Fin 128) (j : Fin 2048) :
    concatenate S128x2048 1 [⟨S128x128, x⟩, ⟨S128x128, x⟩, ⟨S128x128, x⟩, ⟨S128x128, x⟩, ⟨S128x128, x⟩, ⟨S128x128, x⟩, ⟨S128x128, x⟩, ⟨S128x128, x⟩,
      ⟨S128x128, x⟩, ⟨S128x128, x⟩, ⟨S128x128, x⟩, ⟨S128x128, x⟩, ⟨S128x128, x⟩, ⟨S128x128, x⟩, ⟨S128x128, x⟩, ⟨S128x128, x⟩] h (ix2 r j)
      = x (ix2 r ⟨j.val % 128, Nat.mod_lt _ (by decide)⟩) :=
  concatenate_replicate_apply (t := S128x2048) (s₁ := S128x128) 1 16 x h rfl (ix2 r j) (ix2 r ⟨j.val % 128, Nat.mod_lt _ (by decide)⟩) rfl
    (fun b hb => by
      match b with
      | ⟨0, _⟩ => rfl
      | ⟨1, _⟩ => exact absurd rfl hb)

/-- A row's scores against the block of keys. -/
theorem score_apply (a : Vec Ideal S1x128x64 .bf16) (b : Vec Ideal S1x64x2048 .bf16) (r : Fin 128) (j : Fin 2048) :
    k0_pay15 a b (ix2 r j) = ∑ d : Fin 64, a (ix3 0 r d) * b (ix3 0 d j) := by
  unfold k0_pay15
  pointwise

/-- The new running maximum, from the scores: the old one against the greatest score of the row. -/
theorem max_apply (s : FVec Ideal S128x2048 .f32) (mo : Vec Ideal S1x128x128 .f32) (r : Fin 128) (l : Fin 128) :
    k0_pay53 s mo (ix2 r l) = max (mo (ix3 0 r l)) (top fun j => s (ix2 r j)) := by
  unfold k0_pay53 k0_pay52 top
  rw [← ofBits_neg_inf]
  pointwise

/-- The running maximum as it is stored. -/
theorem store_max_apply (s : FVec Ideal S128x2048 .f32) (mo : Vec Ideal S1x128x128 .f32) (r : Fin 128) (l : Fin 128) :
    k0_pay55 s mo (ix3 0 r l) = max (mo (ix3 0 r l)) (top fun j => s (ix2 r j)) := by
  rw [← max_apply s mo]
  unfold k0_pay55
  generalize k0_pay53 s mo = g
  pointwise

/-- The accumulator after the block: the old one rescaled, plus the block's weighted values. -/
theorem acc_apply (s : FVec Ideal S128x2048 .f32) (mo : Vec Ideal S1x128x128 .f32) (v : Vec Ideal S2048x128 .bf16)
    (acc : Vec Ideal S1x128x128 .f32) (r : Fin 128) (e : Fin 128) :
    k0_pay54 s mo v acc (ix3 0 r e)
      = acc (ix3 0 r e) * Ideal.exp2 (mo (ix3 0 r e) - max (mo (ix3 0 r e)) (top fun j => s (ix2 r j)))
        + ∑ j : Fin 2048, Ideal.exp2 (s (ix2 r j)
            - max (mo (ix3 0 r ⟨j.val % 128, Nat.mod_lt _ (by decide)⟩)) (top fun j => s (ix2 r j))) * v (ix2 j e) := by
  simp only [← max_apply s mo]
  unfold k0_pay54
  generalize k0_pay53 s mo = g
  generalize hA : concatenate S128x2048 1 _ _ = A
  have eA : ∀ j, A (ix2 r j) = g (ix2 r ⟨j.val % 128, Nat.mod_lt _ (by decide)⟩) := fun j => by rw [← hA]; exact tile16_apply ..
  unfold k0_pay52
  pointwise
  simp only [eA]
  rfl

/-- The quotient of an accumulator's row by its column of weights' sums. -/
theorem quot_apply (a : Vec Ideal S1x1024x128 .f32) (r : Fin 1024) (e : Fin 64) :
    k0_pay1 a (ix2 r e) = Ideal.div (a (ix3 0 r ⟨e.val, by omega⟩)) (a (ix3 0 r 64)) := by
  unfold k0_pay1
  pointwise

end Cert.AxialIdeal.Step

end
-- ==== Proof.AxialCase.lean ====
/-
  What one grid point of the axial attention leaves in the two carried buffers and in the output block, from what the point
  before left. The body goes through the four streams in turn, and through each in eight chunks of 128 query rows.
-/
module

public import proofs.«01_k».proof.Proof.Gen.AxialIdeal.Frame
public import proofs.«01_k».proof.Proof.AxialStep
public import Idealize.ShloMosaic.Lib.WritesUnit
public import Idealize.ShloMosaic.Lib.Pipeline.ValueKit
public import Idealize.ShloMosaic.Lib.Tactic
public import Idealize.ShloMosaic.Lib.Pointwise

@[expose] public section

set_option maxRecDepth 16384

noncomputable section

namespace Cert.AxialIdeal.Case

open Cert.AxialIdeal Cert.AxialIdeal.Gen Cert.AxialIdeal.Step Cert.Softmax Idealize.ShloMosaic Idealize.ShloMosaic.TcCoe Idealize.SL.Sem

section Blocks

variable {b n k h : Nat} {e : EltTy}

/-- Where a row of one stream's rows from `o` on lies. -/
theorem emb_rows (s o : Nat) (inb) (s' : Fin b) (r : Fin n) (r' : Fin h) (l : Fin k) (hs : s'.val = s) (hr : r.val = o + r'.val) :
    (ix3 s' r l : (⟨3, ![b, n, k]⟩ : Shape).Idx) = (Rect.unit (s := ⟨3, ![b, n, k]⟩) ![s, o, 0] ![1, h, k] inb).emb (ix3 0 r' l) :=
  funext fun a => Fin.ext ((by
    match a with
    | ⟨0, _⟩ => show s'.val = s + 0; omega
    | ⟨1, _⟩ => show r.val = o + r'.val; omega
    | ⟨2, _⟩ => show l.val = 0 + l.val; omega : ((ix3 s' r l : (⟨3, ![b, n, k]⟩ : Shape).Idx) a : Nat) = ![s, o, 0] a + (ix3 0 r' l : (⟨3, ![1, h, k]⟩ : Shape).Idx) a).trans
      (Rect.idx_unit_val (s := ⟨3, ![b, n, k]⟩) ![s, o, 0] ![1, h, k] inb (ix3 0 r' l) a).symm)

/-- Loading some rows of one stream reads the array there. -/
theorem ld_rows (s o : Nat) (x : Vec Ideal ⟨3, ![b, n, k]⟩ e) (inb) (s' : Fin b) (r : Fin n) (r' : Fin h) (l : Fin k) (hs : s'.val = s) (hr : r.val = o + r'.val) :
    View.ld x (Rect.unit (s := ⟨3, ![b, n, k]⟩) ![s, o, 0] ![1, h, k] inb) (ix3 0 r' l) = x (ix3 s' r l) :=
  View.ld_unit_apply_of _ _ _ _ _ _ (fun a => by
    match a with
    | ⟨0, _⟩ => show s'.val = s + 0; omega
    | ⟨1, _⟩ => show r.val = o + r'.val; omega
    | ⟨2, _⟩ => show l.val = 0 + l.val; omega)

/-- After a store of some rows of one stream, they hold what was stored. -/
theorem hit_rows (s o : Nat) (inb) (w : Vec Ideal ⟨3, ![1, h, k]⟩ e) (L : List (View.Piece (Elt Ideal) ⟨3, ![b, n, k]⟩ e)) (s' : Fin b) (r : Fin n) (r' : Fin h) (l : Fin k)
    (hs : s'.val = s) (hr : r.val = o + r'.val) :
    View.canon (⟨Rect.unit (s := ⟨3, ![b, n, k]⟩) ![s, o, 0] ![1, h, k] inb, w⟩ :: L) (ix3 s' r l) = w (ix3 0 r' l) := by
  rw [emb_rows s o inb s' r r' l hs hr]
  exact View.canon_cons_emb _ _ _ _

/-- and every other row holds what it held before. -/
theorem miss_rows (s o : Nat) (inb) (w : Vec Ideal ⟨3, ![1, h, k]⟩ e) (L : List (View.Piece (Elt Ideal) ⟨3, ![b, n, k]⟩ e)) (s' : Fin b) (r : Fin n) (l : Fin k)
    (hn : s'.val ≠ s ∨ r.val < o ∨ o + h ≤ r.val) :
    View.canon (⟨Rect.unit (s := ⟨3, ![b, n, k]⟩) ![s, o, 0] ![1, h, k] inb, w⟩ :: L) (ix3 s' r l) = View.canon L (ix3 s' r l) := by
  refine View.canon_cons_of_not_mem _ L fun hm => ?_
  obtain ⟨i, hi, he⟩ := (LoadRect.mem_set _).mp hm (0 : Fin 3)
  obtain ⟨i', hi', he'⟩ := (LoadRect.mem_set _).mp hm (1 : Fin 3)
  have hi1 : i < 1 := hi
  have he1 : s'.val = s + 1 * i := he
  have hi2 : i' < h := hi'
  have he2 : r.val = o + 1 * i' := he'
  omega

/-- Rows read back after stores, from what the stores left. -/
theorem cov_rows {sig : RefSig} {κ : Kind} {sp : Space} (s o : Nat) (v : View sig κ sp ⟨3, ![b, n, k]⟩ e) (L : List (View.Piece (Elt Ideal) ⟨3, ![b, n, k]⟩ e)) (inb)
    (s' : Fin b) (r : Fin n) (r' : Fin h) (l : Fin k) (hs : s'.val = s) (hr : r.val = o + r'.val) :
    v.readCov L (Rect.unit (s := ⟨3, ![b, n, k]⟩) ![s, o, 0] ![1, h, k] inb).toLoadRect (ix3 0 r' l) = View.canon L (ix3 s' r l) := by
  rw [View.readCov_eq_canon']
  exact ld_rows s o (View.canon L) inb s' r r' l hs hr

end Blocks

/-- A row's scores in one of the four streams. -/
def sc (x0 : Vec Ideal S4x1024x64 .bf16) (x1 : Vec Ideal S1x64x2048 .bf16) (s : Fin 4) (r : Fin 1024) (j : Fin 2048) : EReal :=
  ∑ d : Fin 64, x0 (ix3 s r d) * x1 (ix3 0 d j)

/-- The running maximum after a block. -/
def newMax (x0 : Vec Ideal S4x1024x64 .bf16) (x1 : Vec Ideal S1x64x2048 .bf16) (mo : Fin 128 → EReal) (s : Fin 4) (r : Fin 1024) (l : Fin 128) : EReal :=
  max (mo l) (top (sc x0 x1 s r))

/-- The accumulator after a block. -/
def newAcc (x0 : Vec Ideal S4x1024x64 .bf16) (x1 : Vec Ideal S1x64x2048 .bf16) (x2 : Vec Ideal S2048x128 .bf16) (mo ac : Fin 128 → EReal)
    (s : Fin 4) (r : Fin 1024) (e : Fin 128) : EReal :=
  ac e * Ideal.exp2 (mo e - newMax x0 x1 mo s r e)
    + ∑ j : Fin 2048, Ideal.exp2 (sc x0 x1 s r j - newMax x0 x1 mo s r ⟨j.val % 128, Nat.mod_lt _ (by decide)⟩) * x2 (ix2 j e)

section Chunks

variable (x0 : Vec Ideal S4x1024x64 .bf16) (x1 : Vec Ideal S1x64x2048 .bf16) (x2 : Vec Ideal S2048x128 .bf16) (m0 a0 : Fin 4 → Fin 1024 → Fin 128 → EReal)

/-- The maxima stored for one chunk. -/
theorem chunk_max (s o : Nat) (inb) (gm : Vec Ideal S1x128x128 .f32) (s' : Fin 4) (r : Fin 1024) (r' : Fin 128) (l : Fin 128) (hs : s'.val = s) (hr : r.val = o + r'.val)
    (hm : ∀ l, gm (ix3 0 r' l) = m0 s' r l) :
    k0_pay55 (k0_pay15 (View.ld x0 (Rect.unit (s := S4x1024x64) ![s, o, 0] ![1, 128, 64] inb)) x1) gm (ix3 0 r' l) = newMax x0 x1 (m0 s' r) s' r l := by
  have e : ∀ j, k0_pay15 (View.ld x0 (Rect.unit (s := S4x1024x64) ![s, o, 0] ![1, 128, 64] inb)) x1 (ix2 r' j) = sc x0 x1 s' r j := fun j => by
    rw [score_apply]
    exact Finset.sum_congr rfl fun d _ => congrArg (fun z : EReal => z * x1 (ix3 0 d j)) (ld_rows s o x0 inb s' r r' d hs hr)
  rw [store_max_apply, funext e, hm]
  rfl

/-- The accumulators stored for one chunk. -/
theorem chunk_acc (s o : Nat) (inb) (gm ga : Vec Ideal S1x128x128 .f32) (s' : Fin 4) (r : Fin 1024) (r' : Fin 128) (l : Fin 128) (hs : s'.val = s) (hr : r.val = o + r'.val)
    (hm : ∀ l, gm (ix3 0 r' l) = m0 s' r l) (ha : ∀ l, ga (ix3 0 r' l) = a0 s' r l) :
    k0_pay54 (k0_pay15 (View.ld x0 (Rect.unit (s := S4x1024x64) ![s, o, 0] ![1, 128, 64] inb)) x1) gm x2 ga (ix3 0 r' l) = newAcc x0 x1 x2 (m0 s' r) (a0 s' r) s' r l := by
  have e : ∀ j, k0_pay15 (View.ld x0 (Rect.unit (s := S4x1024x64) ![s, o, 0] ![1, 128, 64] inb)) x1 (ix2 r' j) = sc x0 x1 s' r j := fun j => by
    rw [score_apply]
    exact Finset.sum_congr rfl fun d _ => congrArg (fun z : EReal => z * x1 (ix3 0 d j)) (ld_rows s o x0 inb s' r r' d hs hr)
  rw [acc_apply, ha]
  simp only [e, hm]
  rfl

/-- The chunks before the `n`th hold the new maxima and accumulators. -/
def Done (Lm La : List (View.Piece (Elt Ideal) S4x1024x128 .f32)) (n : Nat) : Prop :=
  ∀ (s : Fin 4) (r : Fin 1024) (l : Fin 128), 8 * s.val + r.val / 128 < n →
    View.canon Lm (ix3 s r l) = newMax x0 x1 (m0 s r) s r l ∧ View.canon La (ix3 s r l) = newAcc x0 x1 x2 (m0 s r) (a0 s r) s r l

/-- The chunks from the `n`th on hold the old ones. -/
def Rest (Lm La : List (View.Piece (Elt Ideal) S4x1024x128 .f32)) (n : Nat) : Prop :=
  ∀ (s : Fin 4) (r : Fin 1024) (l : Fin 128), n ≤ 8 * s.val + r.val / 128 → View.canon Lm (ix3 s r l) = m0 s r l ∧ View.canon La (ix3 s r l) = a0 s r l

/-- No chunk is before the first. -/
theorem done_zero (Lm La : List (View.Piece (Elt Ideal) S4x1024x128 .f32)) : Done x0 x1 x2 m0 a0 Lm La 0 := fun _ _ _ h => absurd h (Nat.not_lt_zero _)

/-- One chunk more, over whatever block of old maxima and accumulators was loaded. -/
theorem done_step (Lm La : List (View.Piece (Elt Ideal) S4x1024x128 .f32)) (s o n : Nat) (inb inb' inb'') (gm ga : Vec Ideal S1x128x128 .f32)
    (hn : n = 8 * s + o / 128) (ho : o % 128 = 0) (hb : o < 1024)
    (hg : ∀ (s' : Fin 4) (r : Fin 1024) (r' : Fin 128) (l : Fin 128), s'.val = s → r.val = o + r'.val → gm (ix3 0 r' l) = m0 s' r l ∧ ga (ix3 0 r' l) = a0 s' r l)
    (h : Done x0 x1 x2 m0 a0 Lm La n) :
    Done x0 x1 x2 m0 a0
      (⟨Rect.unit (s := S4x1024x128) ![s, o, 0] ![1, 128, 128] inb', k0_pay55 (k0_pay15 (View.ld x0 (Rect.unit (s := S4x1024x64) ![s, o, 0] ![1, 128, 64] inb)) x1) gm⟩ :: Lm)
      (⟨Rect.unit (s := S4x1024x128) ![s, o, 0] ![1, 128, 128] inb'', k0_pay54 (k0_pay15 (View.ld x0 (Rect.unit (s := S4x1024x64) ![s, o, 0] ![1, 128, 64] inb)) x1) gm x2 ga⟩ :: La) (n + 1) := by
  intro s' r l hlt
  by_cases he : s'.val = s ∧ o ≤ r.val ∧ r.val < o + 128
  · obtain ⟨hs, h1, h2⟩ := he
    have hr : r.val = o + (⟨r.val - o, by omega⟩ : Fin 128).val := by show r.val = o + (r.val - o); omega
    refine ⟨(hit_rows s o inb' _ Lm s' r ⟨r.val - o, by omega⟩ l hs hr).trans ?_, (hit_rows s o inb'' _ La s' r ⟨r.val - o, by omega⟩ l hs hr).trans ?_⟩
    · exact chunk_max x0 x1 m0 s o inb gm s' r _ l hs hr fun l => (hg s' r _ l hs hr).1
    · exact chunk_acc x0 x1 x2 m0 a0 s o inb gm ga s' r _ l hs hr (fun l => (hg s' r _ l hs hr).1) fun l => (hg s' r _ l hs hr).2
  · have hm : s'.val ≠ s ∨ r.val < o ∨ o + 128 ≤ r.val := by omega
    have hlt' : 8 * s'.val + r.val / 128 < n := by omega
    exact ⟨(miss_rows s o inb' _ Lm s' r l hm).trans (h s' r l hlt').1, (miss_rows s o inb'' _ La s' r l hm).trans (h s' r l hlt').2⟩

/-- A store of one chunk leaves the later ones. -/
theorem rest_step (Lm La : List (View.Piece (Elt Ideal) S4x1024x128 .f32)) (s o n : Nat) (inb' inb'') (wm wa : Vec Ideal S1x128x128 .f32)
    (hn : n = 8 * s + o / 128) (ho : o % 128 = 0) (h : Rest m0 a0 Lm La n) :
    Rest m0 a0 (⟨Rect.unit (s := S4x1024x128) ![s, o, 0] ![1, 128, 128] inb', wm⟩ :: Lm) (⟨Rect.unit (s := S4x1024x128) ![s, o, 0] ![1, 128, 128] inb'', wa⟩ :: La) (n + 1) := by
  intro s' r l hle
  have hm : s'.val ≠ s ∨ r.val < o ∨ o + 128 ≤ r.val := by omega
  have hle' : n ≤ 8 * s'.val + r.val / 128 := by omega
  exact ⟨(miss_rows s o inb' _ Lm s' r l hm).trans (h s' r l hle').1, (miss_rows s o inb'' _ La s' r l hm).trans (h s' r l hle').2⟩

/-- A chunk lies inside an array of the four streams' rows. -/
theorem inb_rows (k s o : Nat) (hs : s < 4) (ho : o + 128 ≤ 1024) : ∀ a : Fin 3, ![s, o, 0] a + ![1, 128, k] a ≤ ![4, 1024, k] a := fun a => by
  match a with
  | ⟨0, _⟩ => show s + 1 ≤ 4; omega
  | ⟨1, _⟩ => show o + 128 ≤ 1024; omega
  | ⟨2, _⟩ => show 0 + k ≤ k; omega

/-- One chunk of an array of rows. -/
abbrev chunk (k s o : Nat) (hs : s < 4) (ho : o + 128 ≤ 1024) : Rect ⟨3, ![4, 1024, k]⟩ :=
  Rect.unit (s := ⟨3, ![4, 1024, k]⟩) ![s, o, 0] ![1, 128, k] (inb_rows k s o hs ho)

/-- One chunk more, where the old values are loaded from the arrays. -/
theorem done_ld (xs0 xs1 : Vec Ideal S4x1024x128 .f32) (Lm La : List (View.Piece (Elt Ideal) S4x1024x128 .f32)) (s o n : Nat) (inb' inb'') (wm wa : Vec Ideal S1x128x128 .f32)
    (hs : s < 4) (hb : o + 128 ≤ 1024) (hn : n = 8 * s + o / 128) (ho : o % 128 = 0)
    (hwm : wm = k0_pay55 (k0_pay15 (View.ld x0 (chunk 64 s o hs hb)) x1) (View.ld xs0 (chunk 128 s o hs hb)))
    (hwa : wa = k0_pay54 (k0_pay15 (View.ld x0 (chunk 64 s o hs hb)) x1) (View.ld xs0 (chunk 128 s o hs hb)) x2 (View.ld xs1 (chunk 128 s o hs hb)))
    (h : Done x0 x1 x2 (fun s r l => xs0 (ix3 s r l)) (fun s r l => xs1 (ix3 s r l)) Lm La n) :
    Done x0 x1 x2 (fun s r l => xs0 (ix3 s r l)) (fun s r l => xs1 (ix3 s r l))
      (⟨Rect.unit (s := S4x1024x128) ![s, o, 0] ![1, 128, 128] inb', wm⟩ :: Lm) (⟨Rect.unit (s := S4x1024x128) ![s, o, 0] ![1, 128, 128] inb'', wa⟩ :: La) (n + 1) := by
  subst hwm hwa
  exact done_step x0 x1 x2 _ _ Lm La s o n _ inb' inb'' _ _ hn ho (by omega) (fun s' r r' l hs hr => ⟨ld_rows s o xs0 _ s' r r' l hs hr, ld_rows s o xs1 _ s' r r' l hs hr⟩) h

/-- The two together, for the first block of keys, whose old values are read back from the stores. -/
def Both (Lm La : List (View.Piece (Elt Ideal) S4x1024x128 .f32)) (n : Nat) : Prop := Done x0 x1 x2 m0 a0 Lm La n ∧ Rest m0 a0 Lm La n

/-- One chunk more, where the old values are read back from the stores before it. -/
theorem both_cov {κ κ' : Kind} {sp sp' : Space} (v : View sig κ sp S4x1024x128 .f32) (v' : View sig κ' sp' S4x1024x128 .f32) (Lm La : List (View.Piece (Elt Ideal) S4x1024x128 .f32)) (s o n : Nat) (inb' inb'')
    (wm wa : Vec Ideal S1x128x128 .f32) (hs : s < 4) (hb : o + 128 ≤ 1024) (hn : n = 8 * s + o / 128) (ho : o % 128 = 0)
    (hwm : wm = k0_pay55 (k0_pay15 (View.ld x0 (chunk 64 s o hs hb)) x1) (v.readCov Lm (chunk 128 s o hs hb).toLoadRect))
    (hwa : wa = k0_pay54 (k0_pay15 (View.ld x0 (chunk 64 s o hs hb)) x1) (v.readCov Lm (chunk 128 s o hs hb).toLoadRect) x2 (v'.readCov La (chunk 128 s o hs hb).toLoadRect))
    (h : Both x0 x1 x2 m0 a0 Lm La n) :
    Both x0 x1 x2 m0 a0
      (⟨Rect.unit (s := S4x1024x128) ![s, o, 0] ![1, 128, 128] inb', wm⟩ :: Lm) (⟨Rect.unit (s := S4x1024x128) ![s, o, 0] ![1, 128, 128] inb'', wa⟩ :: La) (n + 1) := by
  subst hwm hwa
  exact ⟨done_step x0 x1 x2 m0 a0 Lm La s o n _ inb' inb'' _ _ hn ho (by omega) (fun s' r r' l hs hr =>
      ⟨(cov_rows s o v Lm _ s' r r' l hs hr).trans (h.2 s' r l (by omega)).1, (cov_rows s o v' La _ s' r r' l hs hr).trans (h.2 s' r l (by omega)).2⟩) h.1,
    rest_step m0 a0 Lm La s o n inb' inb'' _ _ hn ho h.2⟩

/-- A store of the starting values, one stream after the other. -/
theorem rest_start (Lm La : List (View.Piece (Elt Ideal) S4x1024x128 .f32)) (s : Nat) (inb' inb'') (wm wa : Vec Ideal S1x1024x128 .f32) (u w : EReal)
    (hm : ∀ r l, wm (ix3 0 r l) = u) (ha : ∀ r l, wa (ix3 0 r l) = w)
    (h : ∀ (s' : Fin 4) (r : Fin 1024) (l : Fin 128), s'.val < s → View.canon Lm (ix3 s' r l) = u ∧ View.canon La (ix3 s' r l) = w) :
    ∀ (s' : Fin 4) (r : Fin 1024) (l : Fin 128), s'.val < s + 1 →
      View.canon (⟨Rect.unit (s := S4x1024x128) ![s, 0, 0] ![1, 1024, 128] inb', wm⟩ :: Lm) (ix3 s' r l) = u
        ∧ View.canon (⟨Rect.unit (s := S4x1024x128) ![s, 0, 0] ![1, 1024, 128] inb'', wa⟩ :: La) (ix3 s' r l) = w := by
  intro s' r l hlt
  by_cases hs : s'.val = s
  · exact ⟨(hit_rows s 0 inb' wm Lm s' r r l hs (Nat.zero_add _).symm).trans (hm r l), (hit_rows s 0 inb'' wa La s' r r l hs (Nat.zero_add _).symm).trans (ha r l)⟩
  · exact ⟨(miss_rows s 0 inb' wm Lm s' r l (Or.inl hs)).trans (h s' r l (by omega)).1, (miss_rows s 0 inb'' wa La s' r l (Or.inl hs)).trans (h s' r l (by omega)).2⟩

/-- The starting maxima and accumulators of the four streams. -/
theorem start_both (inb0 inb1 inb2 inb3 inc0 inc1 inc2 inc3) :
    Both x0 x1 x2 (fun _ _ _ => Ideal.ofBits .f32 0xEFA18F08#32) (fun _ _ _ => 0)
      [⟨Rect.unit (s := S4x1024x128) ![3, 0, 0] ![1, 1024, 128] inb3, k0_pay12 (F := Ideal) (k0_pay11 (F := Ideal))⟩, ⟨Rect.unit (s := S4x1024x128) ![2, 0, 0] ![1, 1024, 128] inb2, k0_pay9 (F := Ideal)⟩,
        ⟨Rect.unit (s := S4x1024x128) ![1, 0, 0] ![1, 1024, 128] inb1, k0_pay7 (F := Ideal)⟩, ⟨Rect.unit (s := S4x1024x128) ![0, 0, 0] ![1, 1024, 128] inb0, k0_pay5 (F := Ideal)⟩]
      [⟨Rect.unit (s := S4x1024x128) ![3, 0, 0] ![1, 1024, 128] inc3, k0_pay13 (F := Ideal)⟩, ⟨Rect.unit (s := S4x1024x128) ![2, 0, 0] ![1, 1024, 128] inc2, k0_pay10 (F := Ideal)⟩,
        ⟨Rect.unit (s := S4x1024x128) ![1, 0, 0] ![1, 1024, 128] inc1, k0_pay8 (F := Ideal)⟩, ⟨Rect.unit (s := S4x1024x128) ![0, 0, 0] ![1, 1024, 128] inc0, k0_pay6 (F := Ideal)⟩] 0 := by
  have hu : ∀ r l, k0_pay5 (F := Ideal) (ix3 0 r l) = Ideal.ofBits .f32 0xEFA18F08#32 := fun _ _ => rfl
  have hz : ∀ r l, k0_pay6 (F := Ideal) (ix3 0 r l) = 0 := fun r l => by unfold k0_pay6; pointwise
  refine ⟨done_zero x0 x1 x2 _ _ _ _, fun s r l _ => ?_⟩
  exact rest_start _ _ 3 inb3 inc3 _ _ _ _ hu hz (rest_start _ _ 2 inb2 inc2 _ _ _ _ hu hz (rest_start _ _ 1 inb1 inc1 _ _ _ _ hu hz
    (rest_start [] [] 0 inb0 inc0 _ _ _ _ hu hz fun _ _ _ h => absurd h (Nat.not_lt_zero _)))) s r l (by omega)

/-- After all the chunks every row holds its new maximum and accumulator. -/
theorem done_all {Lm La : List (View.Piece (Elt Ideal) S4x1024x128 .f32)} (h : Done x0 x1 x2 m0 a0 Lm La 32) (s : Fin 4) (r : Fin 1024) (l : Fin 128) :
    View.canon Lm (ix3 s r l) = newMax x0 x1 (m0 s r) s r l ∧ View.canon La (ix3 s r l) = newAcc x0 x1 x2 (m0 s r) (a0 s r) s r l := h s r l (by omega)

/-- The same after a first block of keys. -/
theorem both_all {Lm La : List (View.Piece (Elt Ideal) S4x1024x128 .f32)} (h : Both x0 x1 x2 m0 a0 Lm La 32) (s : Fin 4) (r : Fin 1024) (l : Fin 128) :
    View.canon Lm (ix3 s r l) = newMax x0 x1 (m0 s r) s r l ∧ View.canon La (ix3 s r l) = newAcc x0 x1 x2 (m0 s r) (a0 s r) s r l := done_all x0 x1 x2 m0 a0 h.1 s r l

end Chunks

/-- Where a column of one stream's 64 columns lies in the output block. -/
theorem emb_cols (o : Nat) (inb) (r : Fin 1024) (e : Fin 64) (a : Fin 256) (ha : a.val = o + e.val) :
    (ix2 r a : S1024x256.Idx) = (Rect.unit (s := S1024x256) ![0, o] ![1024, 64] inb).emb (ix2 r e) :=
  funext fun d => Fin.ext ((by
    match d with
    | ⟨0, _⟩ => show r.val = 0 + r.val; omega
    | ⟨1, _⟩ => show a.val = o + e.val; omega : ((ix2 r a : S1024x256.Idx) d : Nat) = ![0, o] d + (ix2 r e : S1024x64.Idx) d).trans
      (Rect.idx_unit_val (s := S1024x256) ![0, o] ![1024, 64] inb (ix2 r e) d).symm)

/-- The output block after a store of these columns holds there what was stored. -/
theorem hit_cols (o : Nat) (inb) (w : Vec Ideal S1024x64 .bf16) (L : List (View.Piece (Elt Ideal) S1024x256 .bf16)) (r : Fin 1024) (e : Fin 64) (a : Fin 256) (ha : a.val = o + e.val) :
    View.canon (⟨Rect.unit (s := S1024x256) ![0, o] ![1024, 64] inb, w⟩ :: L) (ix2 r a) = w (ix2 r e) := by
  rw [emb_cols o inb r e a ha]
  exact View.canon_cons_emb _ _ _ _

/-- and in every other column what it held before. -/
theorem miss_cols (o : Nat) (inb) (w : Vec Ideal S1024x64 .bf16) (L : List (View.Piece (Elt Ideal) S1024x256 .bf16)) (r : Fin 1024) (a : Fin 256) (hn : a.val < o ∨ o + 64 ≤ a.val) :
    View.canon (⟨Rect.unit (s := S1024x256) ![0, o] ![1024, 64] inb, w⟩ :: L) (ix2 r a) = View.canon L (ix2 r a) := by
  refine View.canon_cons_of_not_mem _ L fun hm => ?_
  obtain ⟨i, hi, he⟩ := (LoadRect.mem_set _).mp hm (1 : Fin 2)
  have hi1 : i < 64 := hi
  have he1 : a.val = o + 1 * i := he
  omega

/-- The four streams' columns as they are written out, each from its own accumulators. -/
theorem out_cols {κ : Kind} {sp : Space} (v : View sig κ sp S4x1024x128 .f32) (La : List (View.Piece (Elt Ideal) S4x1024x128 .f32)) (g : Fin 4 → Fin 1024 → Fin 128 → EReal)
    (hL : ∀ s r l, View.canon La (ix3 s r l) = g s r l) (inb0 inb1 inb2 inb3 inc0 inc1 inc2 inc3) (s : Fin 4) (r : Fin 1024) (e : Fin 64) (a : Fin 256) (ha : a.val = 64 * s.val + e.val) :
    View.canon ([⟨Rect.unit (s := S1024x256) ![0, 192] ![1024, 64] inb3, k0_pay4 (v.readCov La (Rect.unit (s := S4x1024x128) ![3, 0, 0] ![1, 1024, 128] inc3).toLoadRect)⟩,
        ⟨Rect.unit (s := S1024x256) ![0, 128] ![1024, 64] inb2, k0_pay3 (v.readCov La (Rect.unit (s := S4x1024x128) ![2, 0, 0] ![1, 1024, 128] inc2).toLoadRect)⟩,
        ⟨Rect.unit (s := S1024x256) ![0, 64] ![1024, 64] inb1, k0_pay2 (v.readCov La (Rect.unit (s := S4x1024x128) ![1, 0, 0] ![1, 1024, 128] inc1).toLoadRect)⟩,
        ⟨Rect.unit (s := S1024x256) ![0, 0] ![1024, 64] inb0, k0_pay1 (v.readCov La (Rect.unit (s := S4x1024x128) ![0, 0, 0] ![1, 1024, 128] inc0).toLoadRect)⟩] : List (View.Piece (Elt Ideal) S1024x256 .bf16)) (ix2 r a)
      = Ideal.div (g s r ⟨e.val, by omega⟩) (g s r 64) := by
  have hq : ∀ (o : Nat) (inc), s.val = o → k0_pay1 (v.readCov La (Rect.unit (s := S4x1024x128) ![o, 0, 0] ![1, 1024, 128] inc).toLoadRect) (ix2 r e)
      = Ideal.div (g s r ⟨e.val, by omega⟩) (g s r 64) := fun o inc hs => by
    rw [quot_apply, cov_rows o 0 v La inc s r r _ hs (Nat.zero_add _).symm, cov_rows o 0 v La inc s r r _ hs (Nat.zero_add _).symm, hL, hL]
  obtain hs | hs | hs | hs : s.val = 0 ∨ s.val = 1 ∨ s.val = 2 ∨ s.val = 3 := by omega
  · rw [miss_cols _ _ _ _ _ _ (by omega), miss_cols _ _ _ _ _ _ (by omega), miss_cols _ _ _ _ _ _ (by omega), hit_cols 0 _ _ _ r e a (by omega)]
    exact hq 0 _ hs
  · rw [miss_cols _ _ _ _ _ _ (by omega), miss_cols _ _ _ _ _ _ (by omega), hit_cols 64 _ _ _ r e a (by omega)]
    exact hq 1 _ hs
  · rw [miss_cols _ _ _ _ _ _ (by omega), hit_cols 128 _ _ _ r e a (by omega)]
    exact hq 2 _ hs
  · rw [hit_cols 192 _ _ _ r e a (by omega)]
    exact hq 3 _ hs

/-- After all the chunks of a last block: a maximum, and what the quotients written out are. -/
theorem done_out {κ : Kind} {sp : Space} (x0 : Vec Ideal S4x1024x64 .bf16) (x1 : Vec Ideal S1x64x2048 .bf16) (x2 : Vec Ideal S2048x128 .bf16) (m0 a0 : Fin 4 → Fin 1024 → Fin 128 → EReal)
    (v : View sig κ sp S4x1024x128 .f32) (Lm La : List (View.Piece (Elt Ideal) S4x1024x128 .f32)) (h : Done x0 x1 x2 m0 a0 Lm La 32)
    (inb0 inb1 inb2 inb3 inc0 inc1 inc2 inc3) (s : Fin 4) (r : Fin 1024) (e : Fin 64) (a : Fin 256) (ha : a.val = 64 * s.val + e.val) :
    View.canon Lm (ix3 s r 0) = newMax x0 x1 (m0 s r) s r 0
      ∧ View.canon ([⟨Rect.unit (s := S1024x256) ![0, 192] ![1024, 64] inb3, k0_pay4 (v.readCov La (Rect.unit (s := S4x1024x128) ![3, 0, 0] ![1, 1024, 128] inc3).toLoadRect)⟩,
        ⟨Rect.unit (s := S1024x256) ![0, 128] ![1024, 64] inb2, k0_pay3 (v.readCov La (Rect.unit (s := S4x1024x128) ![2, 0, 0] ![1, 1024, 128] inc2).toLoadRect)⟩,
        ⟨Rect.unit (s := S1024x256) ![0, 64] ![1024, 64] inb1, k0_pay2 (v.readCov La (Rect.unit (s := S4x1024x128) ![1, 0, 0] ![1, 1024, 128] inc1).toLoadRect)⟩,
        ⟨Rect.unit (s := S1024x256) ![0, 0] ![1024, 64] inb0, k0_pay1 (v.readCov La (Rect.unit (s := S4x1024x128) ![0, 0, 0] ![1, 1024, 128] inc0).toLoadRect)⟩] : List (View.Piece (Elt Ideal) S1024x256 .bf16)) (ix2 r a)
      = Ideal.div (newAcc x0 x1 x2 (m0 s r) (a0 s r) s r ⟨e.val, by omega⟩) (newAcc x0 x1 x2 (m0 s r) (a0 s r) s r 64) :=
  ⟨(done_all x0 x1 x2 m0 a0 h s r 0).1, out_cols v La (fun s r l => newAcc x0 x1 x2 (m0 s r) (a0 s r) s r l) (fun s r l => (done_all x0 x1 x2 m0 a0 h s r l).2)
    inb0 inb1 inb2 inb3 inc0 inc1 inc2 inc3 s r e a ha⟩

section Cases

variable (c : Dev nD) (i : grid0.Coords) (arg3 : Memref sig .tc .vmem S4x1024x64 .bf16) (harg3 : arg3.IsWhole) (arg4 : Memref sig .tc .vmem S1x64x2048 .bf16) (harg4 : arg4.IsWhole)
  (arg5 : Memref sig .tc .vmem S2048x128 .bf16) (harg5 : arg5.IsWhole) (arg6 : Memref sig .tc .vmem S1024x256 .bf16) (harg6 : arg6.IsWhole)
  (arg7 : Memref sig .tc .vmem S4x1024x128 .f32) (harg7 : arg7.IsWhole) (arg8 : Memref sig .tc .vmem S4x1024x128 .f32) (harg8 : arg8.IsWhole)
  (x0 : Vec Ideal S4x1024x64 .bf16) (x1 : Vec Ideal S1x64x2048 .bf16) (x2 : Vec Ideal S2048x128 .bf16) (xs0 xs1 : Vec Ideal S4x1024x128 .f32)

set_option backward.isDefEq.respectTransparency false in
/-- What a middle block of keys leaves: the running maximum and the accumulator. -/
theorem run_B (hc0 : ¬cond0_0 i) (hc1 : ¬cond0_1 i) (s : Fin 4) (r : Fin 1024) (l : Fin 128) :
    sout0_B_0 c i arg3 harg3 arg4 harg4 arg5 harg5 arg6 harg6 arg7 harg7 arg8 harg8 hc0 hc1 x0 x1 x2 xs0 xs1 (ix3 s r l) = newMax x0 x1 (fun l => xs0 (ix3 s r l)) s r l
      ∧ sout0_B_1 c i arg3 harg3 arg4 harg4 arg5 harg5 arg6 harg6 arg7 harg7 arg8 harg8 hc0 hc1 x0 x1 x2 xs0 xs1 (ix3 s r l) = newAcc x0 x1 x2 (fun l => xs0 (ix3 s r l)) (fun l => xs1 (ix3 s r l)) s r l := by
  frame_out
  refine done_all x0 x1 x2 (fun s r l => xs0 (ix3 s r l)) (fun s r l => xs1 (ix3 s r l)) ?_ s r l
  iterate 32 refine done_ld x0 x1 x2 xs0 xs1 _ _ _ _ _ _ _ _ _ (by decide) (by decide) (by rfl) (by rfl) (by rfl) (by rfl) ?_
  exact done_zero x0 x1 x2 _ _ _ _

set_option backward.isDefEq.respectTransparency false in
/-- What a last block of keys leaves in the carried buffers. -/
theorem run_C (hc0 : ¬cond0_0 i) (hc1 : cond0_1 i) (s : Fin 4) (r : Fin 1024) (l : Fin 128) :
    sout0_C_0 c i arg3 harg3 arg4 harg4 arg5 harg5 arg6 harg6 arg7 harg7 arg8 harg8 hc0 hc1 x0 x1 x2 xs0 xs1 (ix3 s r l) = newMax x0 x1 (fun l => xs0 (ix3 s r l)) s r l
      ∧ sout0_C_1 c i arg3 harg3 arg4 harg4 arg5 harg5 arg6 harg6 arg7 harg7 arg8 harg8 hc0 hc1 x0 x1 x2 xs0 xs1 (ix3 s r l) = newAcc x0 x1 x2 (fun l => xs0 (ix3 s r l)) (fun l => xs1 (ix3 s r l)) s r l := by
  frame_out
  refine done_all x0 x1 x2 (fun s r l => xs0 (ix3 s r l)) (fun s r l => xs1 (ix3 s r l)) ?_ s r l
  iterate 32 refine done_ld x0 x1 x2 xs0 xs1 _ _ _ _ _ _ _ _ _ (by decide) (by decide) (by rfl) (by rfl) (by rfl) (by rfl) ?_
  exact done_zero x0 x1 x2 _ _ _ _

set_option backward.isDefEq.respectTransparency false in
/-- What a first block of keys leaves in the carried buffers. -/
theorem run_A (hc0 : cond0_0 i) (hc1 : ¬cond0_1 i) (s : Fin 4) (r : Fin 1024) (l : Fin 128) :
    sout0_A_0 c i arg3 harg3 arg4 harg4 arg5 harg5 arg6 harg6 arg7 harg7 arg8 harg8 hc0 hc1 x0 x1 x2 (ix3 s r l) = newMax x0 x1 (fun _ => Ideal.ofBits .f32 0xEFA18F08#32) s r l
      ∧ sout0_A_1 c i arg3 harg3 arg4 harg4 arg5 harg5 arg6 harg6 arg7 harg7 arg8 harg8 hc0 hc1 x0 x1 x2 (ix3 s r l) = newAcc x0 x1 x2 (fun _ => Ideal.ofBits .f32 0xEFA18F08#32) (fun _ => 0) s r l := by
  frame_out
  refine both_all x0 x1 x2 (fun _ _ _ => Ideal.ofBits .f32 0xEFA18F08#32) (fun _ _ _ => 0) ?_ s r l
  iterate 32 refine both_cov x0 x1 x2 _ _ arg7.view arg8.view _ _ _ _ _ _ _ _ _ (by decide) (by decide) (by rfl) (by rfl) (by rfl) (by rfl) ?_
  exact start_both x0 x1 x2 _ _ _ _ _ _ _ _

set_option backward.isDefEq.respectTransparency false in
/-- What a last block of keys writes out: each stream's accumulators over their column of weights' sums. -/
theorem out_C (hc0 : ¬cond0_0 i) (hc1 : cond0_1 i) (s : Fin 4) (r : Fin 1024) (e : Fin 64) (a : Fin 256) (ha : a.val = 64 * s.val + e.val) :
    sout0_C_0 c i arg3 harg3 arg4 harg4 arg5 harg5 arg6 harg6 arg7 harg7 arg8 harg8 hc0 hc1 x0 x1 x2 xs0 xs1 (ix3 s r 0) = newMax x0 x1 (fun l => xs0 (ix3 s r l)) s r 0
      ∧ out0_C_3 c i arg3 harg3 arg4 harg4 arg5 harg5 arg6 harg6 arg7 harg7 arg8 harg8 hc0 hc1 x0 x1 x2 xs0 xs1 (ix2 r a)
        = Ideal.div (newAcc x0 x1 x2 (fun l => xs0 (ix3 s r l)) (fun l => xs1 (ix3 s r l)) s r ⟨e.val, by omega⟩) (newAcc x0 x1 x2 (fun l => xs0 (ix3 s r l)) (fun l => xs1 (ix3 s r l)) s r 64) := by
  frame_out
  refine done_out x0 x1 x2 (fun s r l => xs0 (ix3 s r l)) (fun s r l => xs1 (ix3 s r l)) _ _ _ ?_ _ _ _ _ _ _ _ _ s r e a ha
  iterate 32 refine done_ld x0 x1 x2 xs0 xs1 _ _ _ _ _ _ _ _ _ (by decide) (by decide) (by rfl) (by rfl) (by rfl) (by rfl) ?_
  exact done_zero x0 x1 x2 _ _ _ _

end Cases

end Cert.AxialIdeal.Case

end
-- ==== Proof.AxialBlocks.lean ====
/-
  What the grid points of the axial attention read: the blocks' places in the call's operands, and the operands in the
  arguments.
-/
module

public import proofs.«01_k».proof.Proof.Gen.AxialIdeal.Frame
public import proofs.«01_k».proof.Proof.Blocks
public import Idealize.ShloMosaic.Lib.Pipeline.ValueKit
public import Idealize.ShloMosaic.Lib.Pointwise
public import Idealize.ShloMosaic.Lib.Tactic
public import Idealize.ShloMosaic.Lib.StableHlo.ReadAt
public import Idealize.ShloMosaic.Lib.Claim

@[expose] public section

set_option maxRecDepth 16384

noncomputable section

namespace Cert.AxialIdeal.Blocks

open Cert.AxialIdeal Cert.AxialIdeal.Gen
open Cert.KernelIdeal.Blocks (scale)
open Idealize.ShloMosaic Idealize.ShloMosaic.TcCoe Idealize.SL.Sem

/-- The index map of the queries' blocks. -/
theorem idx0 : ∀ t : Fin cfg0.N, win0_0.index t = ![t.val / 128, t.val / 8 % 16, 0] :=
  (by decide +kernel : ∀ t : Fin grid0.N, _)
/-- The index map of the keys' blocks. -/
theorem idx1 : ∀ t : Fin cfg0.N, win0_1.index t = ![t.val / 128, 0, t.val % 8] :=
  (by decide +kernel : ∀ t : Fin grid0.N, _)
/-- The index map of the values' blocks. -/
theorem idx2 : ∀ t : Fin cfg0.N, win0_2.index t = ![t.val % 8, t.val / 128] :=
  (by decide +kernel : ∀ t : Fin grid0.N, _)

variable (m : (ℓ : Loc nD τ sig) → Buf (Elt Ideal) ℓ) (c : Dev nD)

/-- The number of grid points. -/
theorem lt_N (t : Fin cfg0.N) : t.val < 512 := lt_of_lt_of_eq t.isLt N_0

/-- The query block's row `r` of stream `s`. -/
theorem q_blk (t : Fin cfg0.N) (s : Fin 4) (r : Fin 1024) (d : Fin 64) :
    iblk m c 0 t (ix3 s r d) = V m c main_v7 (ix3 ⟨4 * (t.val / 128) + s.val, by have := lt_N t; omega⟩ ⟨1024 * (t.val / 8 % 16) + r.val, by omega⟩ d) := by
  blk_ext [iblk, idx0 t]

/-- The key block's column `j`. -/
theorem k_blk (t : Fin cfg0.N) (d : Fin 64) (j : Fin 2048) :
    iblk m c 1 t (ix3 0 d j) = V m c main_v9 (ix3 ⟨t.val / 128, by have := lt_N t; omega⟩ d ⟨2048 * (t.val % 8) + j.val, by omega⟩) := by
  blk_ext [iblk, idx1 t]

/-- The value block's row `j`. -/
theorem v_blk (t : Fin cfg0.N) (j : Fin 2048) (e : Fin 128) :
    iblk m c 2 t (ix2 j e) = V m c main_v16 (ix2 ⟨2048 * (t.val % 8) + j.val, by omega⟩ ⟨128 * (t.val / 128) + e.val, by have := lt_N t; omega⟩) := by
  blk_ext [iblk, idx2 t]

/-- The queries as the call takes them. -/
theorem q_read (h s : Fin 4) (r : Fin 16384) (d : Fin 64) (a : Fin 16) (ha : a.val = 4 * h.val + s.val) :
    V m c main_v7 (ix3 a r d) = HMul.hMul (α := EReal) (m ((c : Thread nD τ).loc main_arg0) (ix4 r h s d)) scale := by
  obtain ⟨a, hlt⟩ := a
  obtain rfl : a = 4 * h.val + s.val := ha
  unfold V scale
  after_reads_at
  pointwise
  rw [show (⟨(4 * h.val + s.val) / 4, by omega⟩ : Fin 4) = h from Fin.ext (by show (4 * h.val + s.val) / 4 = h.val; omega),
    show (⟨(4 * h.val + s.val) % 4, by omega⟩ : Fin 4) = s from Fin.ext (by show (4 * h.val + s.val) % 4 = s.val; omega)]

/-- The keys. -/
theorem k_read (h : Fin 4) (r : Fin 16384) (d : Fin 64) :
    V m c main_v9 (ix3 h d r) = m ((c : Thread nD τ).loc main_arg1) (ix3 r h d) := by
  unfold V
  after_reads_at

/-- The values: a group's first 64 columns. -/
theorem v_read (h : Fin 4) (r : Fin 16384) (e : Fin 64) (a : Fin 512) (ha : a.val = 128 * h.val + e.val) :
    V m c main_v16 (ix2 r a) = m ((c : Thread nD τ).loc main_arg2) (ix3 r h e) := by
  obtain ⟨a, hlt⟩ := a
  obtain rfl : a = 128 * h.val + e.val := ha
  unfold V
  after_reads_at
  pointwise
  rw [dif_pos (by omega)]
  after_reads_at
  pointwise
  rw [show (⟨(128 * h.val + e.val) % 128, by omega⟩ : Fin 64) = e from Fin.ext (by show (128 * h.val + e.val) % 128 = e.val; omega)]

/-- and the column of ones after them. -/
theorem one_read (h : Fin 4) (r : Fin 16384) (a : Fin 512) (ha : a.val = 128 * h.val + 64) :
    V m c main_v16 (ix2 r a) = (1 : EReal) := by
  obtain ⟨a, hlt⟩ := a
  obtain rfl : a = 128 * h.val + 64 := ha
  unfold V
  after_reads_at
  pointwise
  rw [dif_neg (by omega)]
  after_reads_at
  pointwise
  rw [show (128 * h.val + 64) % 128 - 64 = 0 from by omega]
  show FloatOps.uitofp (F := Ideal) FTy.f32 (1#1) = (1 : EReal)
  simp [FloatOps.uitofp]

end Cert.AxialIdeal.Blocks

end
-- ==== Proof.AxialRun.lean ====
/-
  The axial attention's carried buffers after every grid point: in each of the four streams, a real maximum and the values of
  the keys so far, weighted by powers of two of their scores against it. From it, what the last point of a run writes.
-/
module

public import proofs.«01_k».proof.Proof.Gen.AxialIdeal.Value
public import proofs.«01_k».proof.Proof.AxialCase
public import proofs.«01_k».proof.Proof.AxialBlocks
public import proofs.«01_k».proof.Proof.Run

@[expose] public section

set_option maxRecDepth 16384

noncomputable section

namespace Cert.AxialIdeal.Run

open Cert.AxialIdeal Cert.AxialIdeal.Gen Cert.AxialIdeal.Value Cert.AxialIdeal.Case Cert.AxialIdeal.Blocks Cert.Softmax
open Cert.KernelIdeal.Blocks (scale scale_eq)
open Cert.KernelIdeal.Run (start_coe)
open Idealize.ShloMosaic Idealize.ShloMosaic.TcCoe Idealize.SL.Sem

/-- A block of keys over real scores: the maximum stays real, and the accumulator takes the block's keys in. -/
theorem newPoint (x0 : Vec Ideal S4x1024x64 .bf16) (x1 : Vec Ideal S1x64x2048 .bf16) (x2 : Vec Ideal S2048x128 .bf16) (mo ac : Fin 128 → EReal)
    (s : Fin 4) (r : Fin 1024) (f : ℕ → ℝ) (w : Fin 128 → ℕ → EReal) (n : ℕ) (M : ℝ)
    (hsc : ∀ j : Fin 2048, sc x0 x1 s r j = (f (n + j.val) : EReal)) (hx : ∀ (j : Fin 2048) e, x2 (ix2 j e) = w e (n + j.val))
    (hmo : ∀ l, mo l = (M : EReal)) (hac : ∀ e, ac e = accum f (w e) n M) :
    ∃ M' : ℝ, (∀ l, newMax x0 x1 mo s r l = (M' : EReal)) ∧ ∀ e, newAcc x0 x1 x2 mo ac s r e = accum f (w e) (n + 2048) M' := by
  obtain ⟨M', hM'⟩ := max_top_coe (n := 2048) (by norm_num) M (fun j => f (n + j.val))
  have hmax : ∀ l, newMax x0 x1 mo s r l = (M' : EReal) := fun l => by unfold newMax; rw [hmo, funext hsc, hM']
  refine ⟨M', hmax, fun e => ?_⟩
  unfold newAcc
  simp only [hmax, hmo, hac, hsc, hx]
  exact accum_step f (w e) n 2048 M M'

variable (m : (ℓ : Loc nD τ sig) → Buf (Elt Ideal) ℓ) (c : Dev nD)
variable (q : Fin 16384 → Fin 4 → Fin 4 → Fin 64 → ℝ) (k v : Fin 16384 → Fin 4 → Fin 64 → ℝ)

/-- The base-two score of a stream's query row against a key row of its group. -/
def two (h s : Fin 4) (r j : Fin 16384) : ℝ := (∑ d : Fin 64, q r h s d * k j h d) * (1 / (Real.log 2 * 8))

/-- A column of a group's packed values. -/
def col (h : Fin 4) (e : Fin 128) (j : Fin 16384) : EReal := V m c main_v16 (ix2 j ⟨128 * h.val + e.val, by omega⟩)

/-- The group of a point, -/
def grp (t : Fin cfg0.N) : Fin 4 := ⟨t.val / 128, by have := lt_N t; omega⟩
/-- and the query that row `r` of its block is. -/
def row (t : Fin cfg0.N) (r : Fin 1024) : Fin 16384 := ⟨1024 * (t.val / 8 % 16) + r.val, by omega⟩

variable (hq : ∀ r h s d, m ((c : Thread nD τ).loc main_arg0) (ix4 r h s d) = (q r h s d : EReal))
  (hk : ∀ r h d, m ((c : Thread nD τ).loc main_arg1) (ix3 r h d) = (k r h d : EReal))
  (hv : ∀ r h e, m ((c : Thread nD τ).loc main_arg2) (ix3 r h e) = (v r h e : EReal))

include hq hk in
/-- A point's scores. -/
theorem score_blk (t : Fin cfg0.N) (s : Fin 4) (r : Fin 1024) (j : Fin 2048) :
    sc (iblk m c 0 t) (iblk m c 1 t) s r j = ((wrap (by norm_num) (two q k (grp t) s (row t r)) (2048 * (t.val % 8) + j.val) : ℝ) : EReal) := by
  have hj : (⟨(2048 * (t.val % 8) + j.val) % 16384, Nat.mod_lt _ (by norm_num)⟩ : Fin 16384) = ⟨2048 * (t.val % 8) + j.val, by omega⟩ :=
    Fin.ext (Nat.mod_eq_of_lt (by omega))
  have e : ∀ d : Fin 64, HMul.hMul (α := EReal) (iblk m c 0 t (ix3 s r d)) (iblk m c 1 t (ix3 0 d j))
      = ((q (row t r) (grp t) s d * k ⟨2048 * (t.val % 8) + j.val, by omega⟩ (grp t) d * (1 / (Real.log 2 * 8)) : ℝ) : EReal) := fun d => by
    rw [q_blk, k_blk, q_read m c (grp t) s _ d _ rfl, show (⟨t.val / 128, _⟩ : Fin 4) = grp t from rfl, k_read m c (grp t) _ d, scale_eq, hq, hk, ← EReal.coe_mul, ← EReal.coe_mul]
    exact congrArg (fun x : ℝ => (x : EReal)) (mul_right_comm _ _ _)
  unfold sc wrap two
  rw [Finset.sum_congr rfl fun d _ => e d, ← coe_sum, ← Finset.sum_mul, hj]

/-- A point's packed values. -/
theorem val_blk (t : Fin cfg0.N) (j : Fin 2048) (e : Fin 128) :
    iblk m c 2 t (ix2 j e) = wrap (by norm_num) (col m c (grp t) e) (2048 * (t.val % 8) + j.val) := by
  have hj : (⟨(2048 * (t.val % 8) + j.val) % 16384, Nat.mod_lt _ (by norm_num)⟩ : Fin 16384) = ⟨2048 * (t.val % 8) + j.val, by omega⟩ :=
    Fin.ext (Nat.mod_eq_of_lt (by omega))
  rw [v_blk]
  unfold wrap col
  rw [hj]
  rfl

/-- The first point of a run starts over. -/
theorem first (t : Fin cfg0.N) (h0 : t.val % 8 = 0) (s : Fin 4) (r : Fin 1024) (l : Fin 128) :
    (outsAt0 m c t.val t.isLt).2.1 (ix3 s r l) = newMax (iblk m c 0 t) (iblk m c 1 t) (fun _ => Ideal.ofBits .f32 0xEFA18F08#32) s r l
      ∧ (outsAt0 m c t.val t.isLt).2.2 (ix3 s r l) = newAcc (iblk m c 0 t) (iblk m c 1 t) (iblk m c 2 t) (fun _ => Ideal.ofBits .f32 0xEFA18F08#32) (fun _ => 0) s r l := by
  have h1 : ¬t.val % 8 = 7 := by omega
  constructor
  · rw [← (run_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) ((hcond0_0 t).mpr h0) (fun h => h1 ((hcond0_1 t).mp h)) s r l).1, outsAt0_A m c t h0 h1]
  · rw [← (run_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) ((hcond0_0 t).mpr h0) (fun h => h1 ((hcond0_1 t).mp h)) s r l).2, outsAt0_A m c t h0 h1]

/-- Every later point goes on from what the point before left. -/
theorem next (t : Fin cfg0.N) (h0 : ¬t.val % 8 = 0) (s : Fin 4) (r : Fin 1024) (l : Fin 128) :
    (outsAt0 m c t.val t.isLt).2.1 (ix3 s r l) = newMax (iblk m c 0 t) (iblk m c 1 t) (fun l => (outsAt0 m c (t.val - 1) (by omega)).2.1 (ix3 s r l)) s r l
      ∧ (outsAt0 m c t.val t.isLt).2.2 (ix3 s r l) = newAcc (iblk m c 0 t) (iblk m c 1 t) (iblk m c 2 t) (fun l => (outsAt0 m c (t.val - 1) (by omega)).2.1 (ix3 s r l)) (fun l => (outsAt0 m c (t.val - 1) (by omega)).2.2 (ix3 s r l)) s r l := by
  by_cases h1 : t.val % 8 = 7
  · constructor
    · rw [← (run_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
        (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1) s r l).1, outsAt0_C m c t h0 h1]
    · rw [← (run_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
        (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1) s r l).2, outsAt0_C m c t h0 h1]
  · constructor
    · rw [← (run_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
        (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)) s r l).1, outsAt0_B m c t h0 h1]
    · rw [← (run_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
        (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)) s r l).2, outsAt0_B m c t h0 h1]

/-- What the last point of a run writes out, from what the point before it left. -/
theorem written (t : Fin cfg0.N) (h7 : t.val % 8 = 7) (s : Fin 4) (r : Fin 1024) (e : Fin 64) (a : Fin 256) (ha : a.val = 64 * s.val + e.val) :
    (outsAt0 m c t.val t.isLt).1 (ix2 r a)
      = Ideal.div (newAcc (iblk m c 0 t) (iblk m c 1 t) (iblk m c 2 t) (fun l => (outsAt0 m c (t.val - 1) (by omega)).2.1 (ix3 s r l)) (fun l => (outsAt0 m c (t.val - 1) (by omega)).2.2 (ix3 s r l)) s r ⟨e.val, by omega⟩)
        (newAcc (iblk m c 0 t) (iblk m c 1 t) (iblk m c 2 t) (fun l => (outsAt0 m c (t.val - 1) (by omega)).2.1 (ix3 s r l)) (fun l => (outsAt0 m c (t.val - 1) (by omega)).2.2 (ix3 s r l)) s r 64) := by
  have h0 : ¬t.val % 8 = 0 := by omega
  rw [← (out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
      (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h7) s r e a ha).2, outsAt0_C m c t h0 h7]

/-- What a point leaves in every row of every stream. -/
def Inv (t : Fin cfg0.N) : Prop :=
  ∀ (s : Fin 4) (r : Fin 1024), ∃ M : ℝ, (∀ l, (outsAt0 m c t.val t.isLt).2.1 (ix3 s r l) = (M : EReal))
    ∧ ∀ e, (outsAt0 m c t.val t.isLt).2.2 (ix3 s r e)
        = accum (wrap (by norm_num) (two q k (grp t) s (row t r))) (wrap (by norm_num) (col m c (grp t) e)) (2048 * (t.val % 8) + 2048) M

/-- What the point before left, as a later point of the run sees it. -/
theorem before (t : Fin cfg0.N) (h0 : ¬t.val % 8 = 0) (s : Fin 4) (r : Fin 1024) (ih : Inv m c q k ⟨t.val - 1, by omega⟩) :
    ∃ M : ℝ, (∀ l, (outsAt0 m c (t.val - 1) (by omega)).2.1 (ix3 s r l) = (M : EReal))
      ∧ ∀ e, (outsAt0 m c (t.val - 1) (by omega)).2.2 (ix3 s r e) = accum (wrap (by norm_num) (two q k (grp t) s (row t r))) (wrap (by norm_num) (col m c (grp t) e)) (2048 * (t.val % 8)) M := by
  obtain ⟨M, hm, ha⟩ := ih s r
  have hh : grp ⟨t.val - 1, by omega⟩ = grp t := Fin.ext (by show (t.val - 1) / 128 = t.val / 128; omega)
  have hr : row ⟨t.val - 1, by omega⟩ r = row t r :=
    Fin.ext (by show 1024 * ((t.val - 1) / 8 % 16) + r.val = 1024 * (t.val / 8 % 16) + r.val; omega)
  have hk8 : 2048 * ((t.val - 1) % 8) + 2048 = 2048 * (t.val % 8) := by omega
  refine ⟨M, hm, fun e => (ha e).trans ?_⟩
  show accum (wrap _ (two q k (grp ⟨t.val - 1, _⟩) s (row ⟨t.val - 1, _⟩ r))) (wrap _ (col m c (grp ⟨t.val - 1, _⟩) e)) (2048 * ((t.val - 1) % 8) + 2048) M = _
  rw [hh, hr, hk8]

include hq hk in
/-- A later point's step over what the point before left. -/
theorem step (t : Fin cfg0.N) (h0 : ¬t.val % 8 = 0) (s : Fin 4) (r : Fin 1024) (ih : Inv m c q k ⟨t.val - 1, by omega⟩) :
    ∃ M : ℝ, (∀ l, newMax (iblk m c 0 t) (iblk m c 1 t) (fun l => (outsAt0 m c (t.val - 1) (by omega)).2.1 (ix3 s r l)) s r l = (M : EReal))
      ∧ ∀ e, newAcc (iblk m c 0 t) (iblk m c 1 t) (iblk m c 2 t) (fun l => (outsAt0 m c (t.val - 1) (by omega)).2.1 (ix3 s r l)) (fun l => (outsAt0 m c (t.val - 1) (by omega)).2.2 (ix3 s r l)) s r e
        = accum (wrap (by norm_num) (two q k (grp t) s (row t r))) (wrap (by norm_num) (col m c (grp t) e)) (2048 * (t.val % 8) + 2048) M := by
  obtain ⟨M, hm, ha⟩ := before m c q k t h0 s r ih
  exact newPoint (iblk m c 0 t) (iblk m c 1 t) (iblk m c 2 t) (fun l => (outsAt0 m c (t.val - 1) (by omega)).2.1 (ix3 s r l)) (fun l => (outsAt0 m c (t.val - 1) (by omega)).2.2 (ix3 s r l)) s r
    (wrap (by norm_num) (two q k (grp t) s (row t r))) (fun e => wrap (by norm_num) (col m c (grp t) e)) (2048 * (t.val % 8)) M
    (score_blk m c q k hq hk t s r) (val_blk m c t) hm ha

include hq hk in
/-- The first point of a run leaves it. -/
theorem inv_first (t : Fin cfg0.N) (h0 : t.val % 8 = 0) : Inv m c q k t := by
  intro s r
  obtain ⟨M, hM⟩ := start_coe
  obtain ⟨M', h1, h2⟩ := newPoint (iblk m c 0 t) (iblk m c 1 t) (iblk m c 2 t) (fun _ => Ideal.ofBits .f32 0xEFA18F08#32) (fun _ => 0) s r
    (wrap (by norm_num) (two q k (grp t) s (row t r))) (fun e => wrap (by norm_num) (col m c (grp t) e)) (2048 * (t.val % 8)) M
    (score_blk m c q k hq hk t s r) (val_blk m c t) (fun _ => hM) (fun e => by rw [h0]; exact (accum_zero _ _ _).symm)
  exact ⟨M', fun l => (first m c t h0 s r l).1.trans (h1 l), fun e => (first m c t h0 s r e).2.trans (h2 e)⟩

include hq hk in
/-- Every point leaves it. -/
theorem inv_all : ∀ n (hn : n < cfg0.N), Inv m c q k ⟨n, hn⟩ := by
  intro n
  induction n with
  | zero => exact fun hn => inv_first m c q k hq hk ⟨0, hn⟩ rfl
  | succ n ih =>
    intro hn
    by_cases h0 : (n + 1) % 8 = 0
    · exact inv_first m c q k hq hk ⟨n + 1, hn⟩ h0
    · intro s r
      obtain ⟨M, h1, h2⟩ := step m c q k hq hk ⟨n + 1, hn⟩ h0 s r (ih (Nat.lt_of_succ_lt hn))
      exact ⟨M, fun l => (next m c ⟨n + 1, hn⟩ h0 s r l).1.trans (h1 l), fun e => (next m c ⟨n + 1, hn⟩ h0 s r e).2.trans (h2 e)⟩

/-- A stream's attended value: the softmax of its scores against its group's values. -/
def att (h s : Fin 4) (r : Fin 16384) (e : Fin 64) : ℝ :=
  ∑ j : Fin 16384, wt (fun j => (∑ d : Fin 64, q r h s d * k j h d) * (1 / 8)) j * v j h e

/-- The base-two scores times log 2 are the scores of the reference. -/
theorem two_log (h s : Fin 4) (r : Fin 16384) :
    (fun j => two q k h s r j * Real.log 2) = fun j => (∑ d : Fin 64, q r h s d * k j h d) * (1 / 8) := by
  have hl : Real.log 2 ≠ 0 := (Real.log_pos (by norm_num)).ne'
  funext j
  unfold two
  field_simp

include hq hk hv in
/-- What the last point of a run writes out is the attended value. -/
theorem written_att (t : Fin cfg0.N) (h7 : t.val % 8 = 7) (s : Fin 4) (r : Fin 1024) (e : Fin 64) (a : Fin 256) (ha : a.val = 64 * s.val + e.val) :
    (outsAt0 m c t.val t.isLt).1 (ix2 r a) = (att q k v (grp t) s (row t r) e : EReal) := by
  obtain ⟨M, -, h2⟩ := step m c q k hq hk t (by omega) s r (inv_all m c q k hq hk _ _)
  have hval : col m c (grp t) ⟨e.val, by omega⟩ = fun j => (v j (grp t) e : EReal) := by
    funext j
    unfold col
    rw [v_read m c (grp t) j e _ rfl, hv]
  have hone : col m c (grp t) 64 = fun _ => (1 : EReal) := funext fun j => by
    unfold col
    exact one_read m c (grp t) j _ rfl
  have hn : 2048 * (t.val % 8) + 2048 = 16384 := by omega
  rw [written m c t h7 s r e a ha, h2, h2, hval, hone, hn, quot_all, two_log]
  unfold att
  rw [coe_sum]
  exact Finset.sum_congr rfl fun j _ => (EReal.coe_mul _ _).symm

/-- Where an element of the result is written. -/
theorem G3_at (h s : Fin 4) (R : Fin 16384) (e : Fin 64) (a : Fin 1024) (ha : a.val = 256 * h.val + 64 * s.val + e.val) (t : Fin cfg0.N)
    (ht : t.val = 8 * (R.val / 1024 + 16 * h.val) + 7) :
    G3 m c (ix2 R a) = (outsAt0 m c t.val t.isLt).1 (ix2 ⟨R.val % 1024, Nat.mod_lt _ (by norm_num)⟩ ⟨64 * s.val + e.val, by omega⟩) := by
  have hp : pt3Of (ix2 R a) = t.val := by
    show 8 * (1 * (R.val / 1024 - 0) + 16 * (a.val / 256 - 0)) + 7 = t.val
    omega
  have hl : loc3Of (ix2 R a) = ix2 ⟨R.val % 1024, Nat.mod_lt _ (by norm_num)⟩ ⟨64 * s.val + e.val, by omega⟩ := by
    funext d
    apply Fin.ext
    match d with
    | ⟨0, _⟩ => rfl
    | ⟨1, _⟩ => show a.val % 256 = 64 * s.val + e.val; omega
  unfold G3
  rw [dif_pos (by rw [hp]; exact t.isLt), hl, fold0_congr m c _ _ _ _ hp, outsAt0_sweep]

include hq hk hv in
/-- The call's result at an index. -/
theorem kernel_at (h s : Fin 4) (R : Fin 16384) (e : Fin 64) (a : Fin 1024) (ha : a.val = 256 * h.val + 64 * s.val + e.val) :
    G3 m c (ix2 R a) = (att q k v h s R e : EReal) := by
  have ht : 8 * (R.val / 1024 + 16 * h.val) + 7 < cfg0.N := by rw [show cfg0.N = 512 from N_0]; omega
  have hh : grp ⟨8 * (R.val / 1024 + 16 * h.val) + 7, ht⟩ = h := Fin.ext (by show (8 * (R.val / 1024 + 16 * h.val) + 7) / 128 = h.val; omega)
  have hr : row ⟨8 * (R.val / 1024 + 16 * h.val) + 7, ht⟩ ⟨R.val % 1024, Nat.mod_lt _ (by norm_num)⟩ = R :=
    Fin.ext (by show 1024 * ((8 * (R.val / 1024 + 16 * h.val) + 7) / 8 % 16) + R.val % 1024 = R.val; omega)
  rw [G3_at m c h s R e a ha ⟨_, ht⟩ rfl,
    written_att m c q k v hq hk hv ⟨_, ht⟩ (by show (8 * (R.val / 1024 + 16 * h.val) + 7) % 8 = 7; omega) s _ e _ rfl, hh, hr]

end Cert.AxialIdeal.Run

end
-- ==== Proof.AxialReference.lean ====
/-
  The axial attention's reference read at an index: the softmax of each stream's scores against its group's keys, and the
  weighted values.
-/
module

public import proofs.«01_k».proof.Proof.Gen.AxialReferenceIdeal.Run
public import proofs.«01_k».proof.Proof.Reference

@[expose] public section

set_option maxRecDepth 16384

noncomputable section

namespace Cert.AxialReferenceIdeal.Read

open Cert.AxialReferenceIdeal Cert.AxialReferenceIdeal.Gen Cert.AxialReferenceIdeal.Value Cert.Softmax
open Cert.ReferenceIdeal.Read (max_last neg_inf)
open Idealize.ShloMosaic Idealize.ShloMosaic.TcCoe Idealize.SL.Sem

/-- The scaled scores, by group, stream, query and key. -/
def scores (a0 : FVec Ideal S16384x4x4x64 .f32) (a1 : FVec Ideal S16384x4x64 .f32) : FVec Ideal S4x4x16384x16384 .f32 :=
  mulf (transpose S4x4x16384x16384 [0, 3, 2, 1] (Host.dotGeneral dot_S16384x4x64_S16384x4x4x64_S4x16384x16384x4_2_3_0_02_1_1 none a1 a0) transposes_S4x16384x16384x4_S4x4x16384x16384_0_3_2_1)
    (broadcastInDim S4x4x16384x16384 ![] bcast_S_S4x4x16384x16384 (constant S_ .f32 0x3E000000#32))

/-- The greatest score of a row. -/
def rowMax (x : FVec Ideal S4x4x16384x16384 .f32) : FVec Ideal S4x4x16384 .f32 :=
  Host.reduce FloatOps.maximumf x (constant S_ .f32 0xFF800000#32) reducesTo_S4x4x16384x16384_S4x4x16384_d3 h_S_

/-- The exponentials of the scores against the row's greatest. -/
def exps (x : FVec Ideal S4x4x16384x16384 .f32) (m : FVec Ideal S4x4x16384 .f32) : FVec Ideal S4x4x16384x16384 .f32 :=
  Host.exp (subf x (broadcastInDim S4x4x16384x16384 ![0, 1, 2, 3] bcast_S4x4x16384x1_S4x4x16384x16384_0_1_2_3 (broadcastInDim S4x4x16384x1 ![0, 1, 2] bcast_S4x4x16384_S4x4x16384x1_0_1_2
    (maximumf (broadcastInDim S4x4x16384 ![] bcast_S_S4x4x16384 (constant S_ .f32 0xFF800000#32)) m))))

/-- Each row over its sum. -/
def weights (x : FVec Ideal S4x4x16384x16384 .f32) : FVec Ideal S4x4x16384x16384 .f32 :=
  Host.divf x (broadcastInDim S4x4x16384x16384 ![0, 1, 2, 3] bcast_S4x4x16384x1_S4x4x16384x16384_0_1_2_3 (broadcastInDim S4x4x16384x1 ![0, 1, 2] bcast_S4x4x16384_S4x4x16384x1_0_1_2
    (Host.reduceAdd x (constant S_ .f32 0x00000000#32) reducesTo_S4x4x16384x16384_S4x4x16384_d3 h_S_)))

/-- The weights against the values, in the layout of the result. -/
def attended (a2 : FVec Ideal S16384x4x64 .f32) (w : FVec Ideal S4x4x16384x16384 .f32) : FVec Ideal S16384x1024 .bf16 :=
  truncf .bf16 (shapeCast _ (transpose S16384x4x4x64 [3, 0, 2, 1] (Host.dotGeneral dot_S16384x4x64_S4x4x16384x16384_S4x64x4x16384_0_3_2_12_1_0 none a2 w)
    transposes_S4x64x4x16384_S16384x4x4x64_3_0_2_1) shapeCasts_S16384x4x4x64_S16384x1024) bitsLt_bf16_f32

/-- The whole reference. -/
def result (a0 : FVec Ideal S16384x4x4x64 .f32) (a1 a2 : FVec Ideal S16384x4x64 .f32) : FVec Ideal S16384x1024 .bf16 :=
  attended a2 (weights (exps (scores a0 a1) (rowMax (scores a0 a1))))

/-- The reference ends with this result, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c).1.trans rfl, (h c).2⟩) (Cert.AxialReferenceIdeal.Value.run m ρ)

/-- The products at an index. -/
theorem dot_apply (a0 : FVec Ideal S16384x4x4x64 .f32) (a1 : FVec Ideal S16384x4x64 .f32) (h s : Fin 4) (r j : Fin 16384) :
    Host.dotGeneral dot_S16384x4x64_S16384x4x4x64_S4x16384x16384x4_2_3_0_02_1_1 none a1 a0 (ix4 h j r s)
      = ∑ d : Fin 64, HMul.hMul (α := EReal) (a1 (ix3 j h d)) (a0 (ix4 r h s d)) := by
  pointwise

/-- The scores at an index. -/
theorem scores_sum (a0 : FVec Ideal S16384x4x4x64 .f32) (a1 : FVec Ideal S16384x4x64 .f32) (h s : Fin 4) (r j : Fin 16384) :
    scores a0 a1 (ix4 h s r j) = HMul.hMul (α := EReal) (∑ d : Fin 64, HMul.hMul (α := EReal) (a1 (ix3 j h d)) (a0 (ix4 r h s d))) (Ideal.ofBits .f32 0x3E000000#32) := by
  rw [← dot_apply]
  unfold scores
  generalize Host.dotGeneral dot_S16384x4x64_S16384x4x4x64_S4x16384x16384x4_2_3_0_02_1_1 none a1 a0 = x
  pointwise

/-- The scores at an index, over reals. -/
theorem scores_apply (a0 : FVec Ideal S16384x4x4x64 .f32) (a1 : FVec Ideal S16384x4x64 .f32) (q : Fin 16384 → Fin 4 → Fin 4 → Fin 64 → ℝ) (k : Fin 16384 → Fin 4 → Fin 64 → ℝ)
    (hq : ∀ r h s d, a0 (ix4 r h s d) = (q r h s d : EReal)) (hk : ∀ r h d, a1 (ix3 r h d) = (k r h d : EReal)) (h s : Fin 4) (r j : Fin 16384) :
    scores a0 a1 (ix4 h s r j) = (((∑ d : Fin 64, q r h s d * k j h d) * (1 / 8) : ℝ) : EReal) := by
  have h8 : Ideal.ofBits .f32 0x3E000000#32 = ((1 / 8 : ℝ) : EReal) := by simp [Ideal.ofBits, Ideal.ieee]; rw [← EReal.coe_mul]; norm_num
  rw [scores_sum, h8, Finset.sum_congr rfl fun d _ => (by rw [hq, hk, ← EReal.coe_mul, mul_comm] : HMul.hMul (α := EReal) (a1 (ix3 j h d)) (a0 (ix4 r h s d)) = ((q r h s d * k j h d : ℝ) : EReal)),
    ← coe_sum, ← EReal.coe_mul]

/-- A row's greatest score. -/
theorem rowMax_apply (x : FVec Ideal S4x4x16384x16384 .f32) (h s : Fin 4) (r : Fin 16384) : rowMax x (ix3 h s r) = top fun i => x (ix4 h s r i) :=
  max_last x _ _ _ neg_inf h s r

/-- The exponentials at an index. -/
theorem exps_apply (x : FVec Ideal S4x4x16384x16384 .f32) (m : FVec Ideal S4x4x16384 .f32) (h s : Fin 4) (r j : Fin 16384) :
    exps x m (ix4 h s r j) = Ideal.exp (x (ix4 h s r j) - max (Ideal.ofBits .f32 0xFF800000#32) (m (ix3 h s r))) := by
  unfold exps
  pointwise

/-- The quotients at an index. -/
theorem weights_apply (x : FVec Ideal S4x4x16384x16384 .f32) (h s : Fin 4) (r j : Fin 16384) :
    weights x (ix4 h s r j) = Ideal.div (x (ix4 h s r j)) (∑ i, x (ix4 h s r i)) := by
  unfold weights
  pointwise

/-- The softmax weights of a row of real scores. -/
theorem weights_coe (x : FVec Ideal S4x4x16384x16384 .f32) (t : Fin 16384 → ℝ) (h s : Fin 4) (R : Fin 16384)
    (hx : ∀ j, x (ix4 h s R j) = (t j : EReal)) (j : Fin 16384) : weights (exps x (rowMax x)) (ix4 h s R j) = ((wt t j : ℝ) : EReal) := by
  have hN : 0 < 16384 := by norm_num
  obtain ⟨T, hT⟩ := top_coe hN t
  have hE : ∀ j, exps x (rowMax x) (ix4 h s R j) = Ideal.exp ((t j : EReal) - (T : EReal)) := by
    intro j
    rw [exps_apply, rowMax_apply, neg_inf, max_bot_left, funext hx, hT, hx]
  rw [weights_apply, hE, Finset.sum_congr rfl fun i _ => hE i]
  exact div_exp hN t T j

/-- The weighted values at an index. -/
theorem attended_apply (a2 : FVec Ideal S16384x4x64 .f32) (w : FVec Ideal S4x4x16384x16384 .f32) (h s : Fin 4) (R : Fin 16384) (e : Fin 64) (a : Fin 1024)
    (ha : a.val = 256 * h.val + 64 * s.val + e.val) : attended a2 w (ix2 R a) = ∑ j : Fin 16384, a2 (ix3 j h e) * w (ix4 h s R j) := by
  obtain ⟨a, hlt⟩ := a
  obtain rfl : a = 256 * h.val + 64 * s.val + e.val := ha
  unfold attended
  pointwise

/-- The reference's result at an index, over reals: the softmax of the row's scores against the group's values. -/
theorem result_apply (a0 : FVec Ideal S16384x4x4x64 .f32) (a1 a2 : FVec Ideal S16384x4x64 .f32) (q : Fin 16384 → Fin 4 → Fin 4 → Fin 64 → ℝ) (k v : Fin 16384 → Fin 4 → Fin 64 → ℝ)
    (hq : ∀ r h s d, a0 (ix4 r h s d) = (q r h s d : EReal)) (hk : ∀ r h d, a1 (ix3 r h d) = (k r h d : EReal)) (hv : ∀ r h e, a2 (ix3 r h e) = (v r h e : EReal))
    (h s : Fin 4) (R : Fin 16384) (e : Fin 64) (a : Fin 1024) (ha : a.val = 256 * h.val + 64 * s.val + e.val) :
    result a0 a1 a2 (ix2 R a) = ((∑ j : Fin 16384, wt (fun j => (∑ d : Fin 64, q R h s d * k j h d) * (1 / 8)) j * v j h e : ℝ) : EReal) := by
  unfold result
  rw [attended_apply a2 _ h s R e a ha, coe_sum]
  refine Finset.sum_congr rfl fun j _ => ?_
  rw [weights_coe _ _ h s R (scores_apply a0 a1 q k hq hk h s R) j, hv, ← EReal.coe_mul, mul_comm]

end Cert.AxialReferenceIdeal.Read

end
-- ==== Proof.AxialFinite.lean ====
/-
  The axial attention's precondition read: where it holds, every element of its queries, keys and values is a real.
-/
module

public import proofs.«01_k».proof.Proof.Gen.Pre_finite_axial
public import proofs.«01_k».proof.Proof.Finite

@[expose] public section

noncomputable section

namespace Cert.AxialFinite

open Idealize.ShloMosaic Cert.Pre_finite_axial Cert.Finite

/-- The precondition makes the three arguments arrays of reals. -/
theorem reals [Facts] (a0 : FVec Ideal S16384x4x4x64 .f32) (a1 a2 : FVec Ideal S16384x4x64 .f32) (h : fn (F := Ideal) a0 a1 a2 = fun _ => 1#1) :
    (∀ i, ∃ x : ℝ, (a0 i : EReal) = (x : EReal)) ∧ (∀ i, ∃ x : ℝ, (a1 i : EReal) = (x : EReal)) ∧ ∀ i, ∃ x : ℝ, (a2 i : EReal) = (x : EReal) := by
  have e := congrFun h (fun d => d.elim0)
  unfold fn fn_part1 at e
  obtain ⟨e, h2⟩ := and_left e
  obtain ⟨h0, h1⟩ := and_left e
  clear e h
  exact ⟨all_real a0 Facts.bcast_S_S16384x4x4x64 Facts.reducesTo_S16384x4x4x64_S_d0_1_2_3 Facts.h_S_ _ h0,
    all_real a1 Facts.bcast_S_S16384x4x64 Facts.reducesTo_S16384x4x64_S_d0_1_2 Facts.h_S_ _ h1,
    all_real a2 Facts.bcast_S_S16384x4x64 Facts.reducesTo_S16384x4x64_S_d0_1_2 Facts.h_S_ _ h2⟩

end Cert.AxialFinite

end
-- ==== Proof.lean ====
/- The proof of the claims: the frames by the generated runs, and the value claims by reading the kernels' results and the
   references' at an index (Proof/Out.lean, Proof/ExpertsEqual.lean, Proof/AxialRun.lean). -/
module

public import proofs.«01_k».proof.Proof.Gen.Experts.Skeleton
public import proofs.«01_k».proof.Proof.Gen.Experts.Launch
public import proofs.«01_k».proof.Proof.Gen.ExpertsIdeal.Skeleton
public import proofs.«01_k».proof.Proof.Gen.ExpertsIdeal.Launch
public import proofs.«01_k».proof.Proof.Gen.ExpertsReferenceIdeal.Run
public import proofs.«01_k».proof.Proof.Gen.Pre_groups_in_range
public import proofs.«01_k».proof.Proof.Gen.Axial.Frame
public import proofs.«01_k».proof.Proof.Gen.AxialIdeal.Value
public import proofs.«01_k».proof.Proof.Gen.AxialReferenceIdeal.Run
public import proofs.«01_k».proof.Proof.Gen.Pre_finite_axial
public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Finite
public import proofs.«01_k».proof.Proof.Out
public import proofs.«01_k».proof.Proof.ExpertsSame
public import proofs.«01_k».proof.Proof.ExpertsEqual
public import proofs.«01_k».proof.Proof.AxialRun
public import proofs.«01_k».proof.Proof.AxialReference
public import proofs.«01_k».proof.Proof.AxialFinite
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments unchanged and nothing outstanding. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the arguments are reals. -/
theorem reference_frame_finite : quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results where the arguments are reals. -/
theorem equal : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6⟩ := Cert.Finite.reals _ _ _ _ _ _ _ _ (hpre c)
  choose q hq using h0
  choose k hk using h1
  choose v hv using h2
  obtain ⟨l, hl⟩ := Cert.KernelIdeal.Out.mixOf_coe _ _ _ _ h3 h4 h5 h6
  refine (h c).1.trans ((Cert.ReferenceIdeal.Read.out_eq m' c).trans ?_)
  simp only [hagree c]
  funext i
  have hi : i = ix2 (i 0) (i 1) := funext fun d => by
    match d with
    | ⟨0, _⟩ => rfl
    | ⟨1, _⟩ => rfl
  have hb : (i 1).val < 1024 := (i 1).isLt
  rw [hi]
  refine (Cert.ReferenceIdeal.Read.reference_at _ _ _ _ _ _ _ _ (fun r h s d => q (ix4 r h s d)) (fun r h s d => k (ix4 r h s d)) (fun r h e => v (ix3 r h e)) l
    (fun r h s d => hq _) (fun r h s d => hk _) (fun r h e => hv _) hl ⟨(i 1).val / 128, by omega⟩ (i 0) ⟨(i 1).val % 128, by omega⟩ (i 1)
    (by show (i 1).val = 128 * ((i 1).val / 128) + (i 1).val % 128; omega)).trans ?_
  exact (Cert.KernelIdeal.Out.kernel_at m c (fun r h s d => q (ix4 r h s d)) (fun r h s d => k (ix4 r h s d)) (fun r h e => v (ix3 r h e)) l
    (fun r h s d => hq _) (fun r h s d => hk _) (fun r h e => hv _) hl ⟨(i 1).val / 128, by omega⟩ (i 0) ⟨(i 1).val % 128, by omega⟩ (i 1)
    (by show (i 1).val = 128 * ((i 1).val / 128) + (i 1).val % 128; omega)).symm

/-- The experts' call and its reference end with equal results where the groups are in range. -/
theorem experts_equal : algebraic_ExpertsIdeal_ExpertsReferenceIdeal := by
  intro m ρ m' ρ' hpre hagree
  have hlt := Cert.Experts.Same.tabs_lt m hpre
  have hk := Cert.Experts.Hand.run_result (Cert.Experts.Same.adm m hlt) m ρ (Cert.Experts.Hand.tabs_eq m)
  refine ⟨fun c => Cert.Experts.Blocks.result (Cert.Experts.Same.adm m hlt) m c, ?_, ?_⟩
  · rw [Cert.Experts.Same.main_eq, Cert.Experts.Same.defs_eq]
    exact (θ_run Cert.Experts.defs _ _).mono (fun _ h c => ⟨((h.1 c).1).trans (Cert.Experts.Blocks.final (Cert.Experts.Same.adm m hlt) m c), (h.1 c).2⟩) hk
  · refine (θ_run Cert.ExpertsReferenceIdeal.defs _ _).mono (fun _ h c => ⟨(h c).1.trans ?_, (h c).2⟩) (Cert.ExpertsReferenceIdeal.Read.run m' ρ')
    have h0 := Cert.Experts.Hand.tabs_eq m c 0
    have h1 := Cert.Experts.Hand.tabs_eq m c 1
    refine Eq.trans ?_ (Cert.Experts.Equal.result_eq (Cert.Experts.Same.adm m hlt) m c hlt).symm
    obtain ⟨e0, e1, e2, e3, e4, e5, e6⟩ := hagree c
    rw [e0, e1, e2, e3, e4, e5, e6]
    exact congrArg₂ (fun x y => Cert.ExpertsReferenceIdeal.Read.summed _ _ (Cert.ExpertsReferenceIdeal.Read.comb x y _) _) h0 h1

/-- The axial attention's reference ends with its arguments unchanged and nothing outstanding. -/
theorem axial_reference_frame : quiescent_AxialReferenceIdeal := fun m ρ _ =>
  (θ_run Cert.AxialReferenceIdeal.defs _ _).mono (fun r h => ⟨fun c => (h c).2, sem_eq_zero_of_no_sems (by decide) r.2⟩)
    (Cert.AxialReferenceIdeal.Value.run (F := Ideal) m ρ)

/-- The same where its arguments are reals. -/
theorem axial_reference_frame_finite : quiescent_AxialReferenceIdeal_pre_finite_axial := fun m ρ _ =>
  (θ_run Cert.AxialReferenceIdeal.defs _ _).mono (fun r h => ⟨fun c => (h c).2, sem_eq_zero_of_no_sems (by decide) r.2⟩)
    (Cert.AxialReferenceIdeal.Value.run (F := Ideal) m ρ)

/-- The axial attention's call and its reference end with equal results where the arguments are reals. -/
theorem axial_equal : algebraic_AxialIdeal_AxialReferenceIdeal_pre_finite_axial := by
  intro m ρ m' ρ' hpre hagree
  refine ⟨_, Cert.AxialIdeal.Value.run (F := Ideal) m ρ, ?_⟩
  refine (θ_run Cert.AxialReferenceIdeal.defs _ _).mono (fun _ h c => ⟨(h c).1.trans ?_, (h c).2⟩) (Cert.AxialReferenceIdeal.Read.run m' ρ')
  obtain ⟨h0, h1, h2⟩ := Cert.AxialFinite.reals _ _ _ (hpre c)
  choose q hq using h0
  choose k hk using h1
  choose v hv using h2
  obtain ⟨e0, e1, e2⟩ := hagree c
  rw [e0, e1, e2]
  funext i
  have hi : i = ix2 (i 0) (i 1) := funext fun d => by
    match d with
    | ⟨0, _⟩ => rfl
    | ⟨1, _⟩ => rfl
  have hb : (i 1).val < 1024 := (i 1).isLt
  have ha : (i 1).val = 256 * ((i 1).val / 256) + 64 * ((i 1).val / 64 % 4) + (i 1).val % 64 := by omega
  rw [hi]
  exact (Cert.AxialReferenceIdeal.Read.result_apply _ _ _ (fun r h s d => q (ix4 r h s d)) (fun r h d => k (ix3 r h d)) (fun r h e => v (ix3 r h e))
    (fun r h s d => hq _) (fun r h d => hk _) (fun r h e => hv _) ⟨(i 1).val / 256, by omega⟩ ⟨(i 1).val / 64 % 4, by omega⟩ (i 0) ⟨(i 1).val % 64, by omega⟩ (i 1) ha).trans
    (Cert.AxialIdeal.Run.kernel_at m c (fun r h s d => q (ix4 r h s d)) (fun r h d => k (ix3 r h d)) (fun r h e => v (ix3 r h e))
    (fun r h s d => hq _) (fun r h d => hk _) (fun r h e => hv _) ⟨(i 1).val / 256, by omega⟩ ⟨(i 1).val / 64 % 4, by omega⟩ (i 0) ⟨(i 1).val % 64, by omega⟩ (i 1) ha).symm

/-- The claims. -/
theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.Axial.Gen.facts, Cert.AxialIdeal.Gen.facts, Cert.AxialReferenceIdeal.Gen.facts,
  Cert.Pre_finite.Gen.facts, Cert.Pre_groups_in_range.Gen.facts, Cert.Pre_finite_axial.Gen.facts,
  fun m ρ _ => Cert.Kernel.Gen.frame m ρ, fun m ρ _ => Cert.KernelIdeal.Gen.frame m ρ, fun m ρ _ => Cert.KernelIdeal.Gen.frame m ρ,
  reference_frame, reference_frame_finite,
  Cert.Experts.Same.experts_frame, Cert.Experts.Same.experts_ideal_frame, Cert.Experts.Same.experts_reference_frame, Cert.Experts.Same.experts_reference_frame_range,
  fun m ρ _ => Cert.Axial.Gen.frame m ρ, fun m ρ _ => Cert.AxialIdeal.Gen.frame m ρ, fun m ρ _ => Cert.AxialIdeal.Gen.frame m ρ,
  axial_reference_frame, axial_reference_frame_finite,
  (trivial : preserves_Kernel_KernelIdeal), equal, (trivial : preserves_Experts_ExpertsIdeal), experts_equal,
  (trivial : preserves_Axial_AxialIdeal), axial_equal⟩

end Cert.Proof

end
